-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x56x56x192 : Shape := ⟨4, ![1, 56, 56, 192]⟩
abbrev S1x4x56x56x49 : Shape := ⟨5, ![1, 4, 56, 56, 49]⟩
abbrev S1x56x56 : Shape := ⟨3, ![1, 56, 56]⟩
abbrev S192x192 : Shape := ⟨2, ![192, 192]⟩
abbrev S192 : Shape := ⟨1, ![192]⟩
abbrev S3136x192 : Shape := ⟨2, ![3136, 192]⟩
abbrev S3136x1 : Shape := ⟨2, ![3136, 1]⟩
abbrev S4x56x56x49 : Shape := ⟨4, ![4, 56, 56, 49]⟩
abbrev S56x56x4x49 : Shape := ⟨4, ![56, 56, 4, 49]⟩
abbrev S56x56x196 : Shape := ⟨3, ![56, 56, 196]⟩
abbrev S_ : Shape := ⟨0, ![]⟩
abbrev S56x56x208 : Shape := ⟨3, ![56, 56, 208]⟩
abbrev S1x192 : Shape := ⟨2, ![1, 192]⟩
abbrev S56x56x192 : Shape := ⟨3, ![56, 56, 192]⟩
abbrev S7x56x192 : Shape := ⟨3, ![7, 56, 192]⟩
abbrev S56x208 : Shape := ⟨2, ![56, 208]⟩
abbrev S56x192 : Shape := ⟨2, ![56, 192]⟩
abbrev S1x56x208 : Shape := ⟨3, ![1, 56, 208]⟩
abbrev S1x16 : Shape := ⟨2, ![1, 16]⟩
abbrev S16 : Shape := ⟨1, ![16]⟩
abbrev S1x1x16 : Shape := ⟨3, ![1, 1, 16]⟩
abbrev S1 : Shape := ⟨1, ![1]⟩

abbrev nBuf : Table → Nat
  | .hbm => 22
  | .local .tc .vmem => 9
  | .local .scVector .vmem => 3
  | _ => 0

abbrev bufTy : (tb : Table) → Fin (nBuf tb) → BufTy
  | .hbm, ⟨0, _⟩ => ⟨S1x56x56x192, .f32⟩
  | .hbm, ⟨1, _⟩ => ⟨S1x4x56x56x49, .f32⟩
  | .hbm, ⟨2, _⟩ => ⟨S1x56x56, .f32⟩
  | .hbm, ⟨3, _⟩ => ⟨S192x192, .f32⟩
  | .hbm, ⟨4, _⟩ => ⟨S192, .f32⟩
  | .hbm, ⟨5, _⟩ => ⟨S192x192, .f32⟩
  | .hbm, ⟨6, _⟩ => ⟨S192, .f32⟩
  | .hbm, ⟨7, _⟩ => ⟨S3136x192, .f32⟩
  | .hbm, ⟨8, _⟩ => ⟨S3136x1, .f32⟩
  | .hbm, ⟨9, _⟩ => ⟨S4x56x56x49, .f32⟩
  | .hbm, ⟨10, _⟩ => ⟨S56x56x4x49, .f32⟩
  | .hbm, ⟨11, _⟩ => ⟨S56x56x196, .f32⟩
  | .hbm, ⟨12, _⟩ => ⟨S_, .i32⟩
  | .hbm, ⟨13, _⟩ => ⟨S_, .f32⟩
  | .hbm, ⟨14, _⟩ => ⟨S56x56x208, .f32⟩
  | .hbm, ⟨15, _⟩ => ⟨S1x192, .f32⟩
  | .hbm, ⟨16, _⟩ => ⟨S3136x192, .f32⟩
  | .hbm, ⟨17, _⟩ => ⟨S56x56x192, .f32⟩
  | .hbm, ⟨18, _⟩ => ⟨S3136x192, .f32⟩
  | .hbm, ⟨19, _⟩ => ⟨S1x192, .f32⟩
  | .hbm, ⟨20, _⟩ => ⟨S3136x192, .f32⟩
  | .hbm, ⟨21, _⟩ => ⟨S1x56x56x192, .f32⟩
  | .local .tc .vmem, ⟨0, _⟩ => ⟨S3136x192, .f32⟩
  | .local .tc .vmem, ⟨1, _⟩ => ⟨S192x192, .f32⟩
  | .local .tc .vmem, ⟨2, _⟩ => ⟨S1x192, .f32⟩
  | .local .tc .vmem, ⟨3, _⟩ => ⟨S3136x1, .f32⟩
  | .local .tc .vmem, ⟨4, _⟩ => ⟨S3136x192, .f32⟩
  | .local .tc .vmem, ⟨5, _⟩ => ⟨S3136x192, .f32⟩
  | .local .tc .vmem, ⟨6, _⟩ => ⟨S192x192, .f32⟩
  | .local .tc .vmem, ⟨7, _⟩ => ⟨S1x192, .f32⟩
  | .local .tc .vmem, ⟨8, _⟩ => ⟨S3136x192, .f32⟩
  | .local .scVector .vmem, ⟨0, _⟩ => ⟨S7x56x192, .f32⟩
  | .local .scVector .vmem, ⟨1, _⟩ => ⟨S56x208, .f32⟩
  | .local .scVector .vmem, ⟨2, _⟩ => ⟨S56x192, .f32⟩
  | _, _ => ⟨S1x56x56x192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v8_scv : Ref sig .scVector := ⟨.hbm, 17, rfl⟩
abbrev main_v5_scv : Ref sig .scVector := ⟨.hbm, 14, rfl⟩
abbrev main_v9_scv : Ref sig .scVector := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc2_sem0_0 : DmaSem sig := 8
abbrev cc2_sem1_0 : DmaSem sig := 9
abbrev cc2_sem2_0 : DmaSem sig := 10
abbrev cc2_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S3136x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3136x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3136x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_0 : BitVec 32 := 0#32
  let c2_i32_1 : BitVec 32 := 2#32
  let v2 : BitVec 32 := Scalar.addi c0_i32_0 c2_i32_1
  let c1_i32 : BitVec 32 := 1#32
  ⟨c0_i32_0, v2, c1_i32⟩
def k1_cond1 (i : grid1.Coords) (k1_t1 : Fin k1_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg10 : BitVec 32 := Scf.iv c0_i32_0 c1_i32 k1_t1
  let c32_i32 : BitVec 32 := 32#32
  let v3 : BitVec 32 := Scalar.muli arg10 c32_i32
  let v4 : BitVec 32 := Scalar.addi v1 v3
  let c56_i32 : BitVec 32 := 56#32
  let v5 : BitVec 1 := Scalar.cmpi .slt v4 c56_i32
  let v6 : BitVec 32 := Scalar.extui v5
  let c0_i32_3 : BitVec 32 := 0#32
  let v7 : BitVec 1 := Scalar.cmpi .ne v6 c0_i32_3
  v7

def k1_off1 (i : grid1.Coords) (k1_t1 : Fin k1_t1_loop.trips) : Fin 3 → Nat :=
  let c49_i32 : BitVec 32 := 49#32
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg10 : BitVec 32 := Scf.iv c0_i32_0 c1_i32 k1_t1
  let c32_i32 : BitVec 32 := 32#32
  let v3 : BitVec 32 := Scalar.muli arg10 c32_i32
  let v4 : BitVec 32 := Scalar.addi v1 v3
  let c3_i32 : BitVec 32 := 3#32
  let v8 : BitVec 32 := Scalar.subi v4 c3_i32
  let v9 : BitVec 32 := Scalar.maxsi c0_i32_4 v8
  let v10 : BitVec 32 := Scalar.minsi c49_i32 v9
  let c0_i32_5 : BitVec 32 := 0#32
  let c0_i32_6 : BitVec 32 := 0#32
  ![v10.toNat, 0, 0]
def k1_off2 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg10 : BitVec 32 := Scf.iv c0_i32_0 c1_i32 k1_t1
  let c32_i32 : BitVec 32 := 32#32
  let v3 : BitVec 32 := Scalar.muli arg10 c32_i32
  let v4 : BitVec 32 := Scalar.addi v1 v3
  let c0_i32_9 : BitVec 32 := 0#32
  let c0_i32_10 : BitVec 32 := 0#32
  ![v4.toNat, 0, 0]
@[reducible] def k1_t2_loop : Scf.Loop 32 :=
  let c0_i32_22 : BitVec 32 := 0#32
  let c4_i32 : BitVec 32 := 4#32
  let v23 : BitVec 32 := Scalar.addi c0_i32_22 c4_i32
  let c1_i32_23 : BitVec 32 := 1#32
  ⟨c0_i32_22, v23, c1_i32_23⟩
def k1_off3 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v49 : Index := Scalar.indexCast v45
  let c0 : Index := 0#32
  ![v49.toNat, 0]
def k1_off4 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v52 : Index := Scalar.indexCast v45
  let c16 : Index := 16#32
  ![v52.toNat, 16]
def k1_off5 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v55 : Index := Scalar.indexCast v45
  let c32 : Index := 32#32
  ![v55.toNat, 32]
def k1_off6 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v58 : Index := Scalar.indexCast v45
  let c48 : Index := 48#32
  ![v58.toNat, 48]
def k1_off7 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_42 : BitVec 32 := 1#32
  let v61 : BitVec 32 := Scalar.addi v45 c1_i32_42
  let v62 : Index := Scalar.indexCast v61
  let c0_43 : Index := 0#32
  ![v62.toNat, 0]
def k1_off8 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_44 : BitVec 32 := 1#32
  let v65 : BitVec 32 := Scalar.addi v45 c1_i32_44
  let v66 : Index := Scalar.indexCast v65
  let c16_45 : Index := 16#32
  ![v66.toNat, 16]
def k1_off9 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_46 : BitVec 32 := 1#32
  let v69 : BitVec 32 := Scalar.addi v45 c1_i32_46
  let v70 : Index := Scalar.indexCast v69
  let c32_47 : Index := 32#32
  ![v70.toNat, 32]
def k1_off10 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_48 : BitVec 32 := 1#32
  let v73 : BitVec 32 := Scalar.addi v45 c1_i32_48
  let v74 : Index := Scalar.indexCast v73
  let c48_49 : Index := 48#32
  ![v74.toNat, 48]
def k1_off11 (k1_t2 : Fin k1_t2_loop.trips) (c0_i32_61 : BitVec 32) : Fin 3 → Nat :=
  let c0_i32_62 : BitVec 32 := 0#32
  let v90 : Index := Scalar.indexCast c0_i32_62
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v89 : BitVec 32 := Scalar.addi v48 c0_i32_61
  let v91 : Index := Scalar.indexCast v89
  let c0_63 : Index := 0#32
  ![0, v91.toNat, 0]
def k1_off12 (k1_t2 : Fin k1_t2_loop.trips) (c0_i32_64 : BitVec 32) : Fin 3 → Nat :=
  let c0_i32_65 : BitVec 32 := 0#32
  let v95 : Index := Scalar.indexCast c0_i32_65
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v94 : BitVec 32 := Scalar.addi v48 c0_i32_64
  let v96 : Index := Scalar.indexCast v94
  let c16_66 : Index := 16#32
  ![0, v96.toNat, 16]
def k1_off13 (k1_t2 : Fin k1_t2_loop.trips) (c0_i32_67 : BitVec 32) : Fin 3 → Nat :=
  let c0_i32_68 : BitVec 32 := 0#32
  let v100 : Index := Scalar.indexCast c0_i32_68
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v99 : BitVec 32 := Scalar.addi v48 c0_i32_67
  let v101 : Index := Scalar.indexCast v99
  let c32_69 : Index := 32#32
  ![0, v101.toNat, 32]
def k1_off14 (k1_t2 : Fin k1_t2_loop.trips) (c0_i32_122 : BitVec 32) : Fin 3 → Nat :=
  let c1_i32_123 : BitVec 32 := 1#32
  let v321 : Index := Scalar.indexCast c1_i32_123
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v320 : BitVec 32 := Scalar.addi v48 c0_i32_122
  let v322 : Index := Scalar.indexCast v320
  let c0_124 : Index := 0#32
  ![1, v322.toNat, 0]
def k1_off15 (k1_t2 : Fin k1_t2_loop.trips) (c0_i32_125 : BitVec 32) : Fin 3 → Nat :=
  let c1_i32_126 : BitVec 32 := 1#32
  let v326 : Index := Scalar.indexCast c1_i32_126
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v325 : BitVec 32 := Scalar.addi v48 c0_i32_125
  let v327 : Index := Scalar.indexCast v325
  let c16_127 : Index := 16#32
  ![1, v327.toNat, 16]
def k1_off16 (k1_t2 : Fin k1_t2_loop.trips) (c0_i32_128 : BitVec 32) : Fin 3 → Nat :=
  let c1_i32_129 : BitVec 32 := 1#32
  let v331 : Index := Scalar.indexCast c1_i32_129
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v330 : BitVec 32 := Scalar.addi v48 c0_i32_128
  let v332 : Index := Scalar.indexCast v330
  let c32_130 : Index := 32#32
  ![1, v332.toNat, 32]
def k1_off17 (k1_t2 : Fin k1_t2_loop.trips) (c0_i32_185 : BitVec 32) : Fin 3 → Nat :=
  let c2_i32_186 : BitVec 32 := 2#32
  let v552 : Index := Scalar.indexCast c2_i32_186
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v551 : BitVec 32 := Scalar.addi v48 c0_i32_185
  let v553 : Index := Scalar.indexCast v551
  let c0_187 : Index := 0#32
  ![2, v553.toNat, 0]
def k1_off18 (k1_t2 : Fin k1_t2_loop.trips) (c0_i32_188 : BitVec 32) : Fin 3 → Nat :=
  let c2_i32_189 : BitVec 32 := 2#32
  let v557 : Index := Scalar.indexCast c2_i32_189
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v556 : BitVec 32 := Scalar.addi v48 c0_i32_188
  let v558 : Index := Scalar.indexCast v556
  let c16_190 : Index := 16#32
  ![2, v558.toNat, 16]
def k1_off19 (k1_t2 : Fin k1_t2_loop.trips) (c0_i32_191 : BitVec 32) : Fin 3 → Nat :=
  let c2_i32_192 : BitVec 32 := 2#32
  let v562 : Index := Scalar.indexCast c2_i32_192
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v561 : BitVec 32 := Scalar.addi v48 c0_i32_191
  let v563 : Index := Scalar.indexCast v561
  let c32_193 : Index := 32#32
  ![2, v563.toNat, 32]
def k1_off20 (k1_t2 : Fin k1_t2_loop.trips) (c0_i32_248 : BitVec 32) : Fin 3 → Nat :=
  let c3_i32_249 : BitVec 32 := 3#32
  let v783 : Index := Scalar.indexCast c3_i32_249
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v782 : BitVec 32 := Scalar.addi v48 c0_i32_248
  let v784 : Index := Scalar.indexCast v782
  let c0_250 : Index := 0#32
  ![3, v784.toNat, 0]
def k1_off21 (k1_t2 : Fin k1_t2_loop.trips) (c0_i32_251 : BitVec 32) : Fin 3 → Nat :=
  let c3_i32_252 : BitVec 32 := 3#32
  let v788 : Index := Scalar.indexCast c3_i32_252
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v787 : BitVec 32 := Scalar.addi v48 c0_i32_251
  let v789 : Index := Scalar.indexCast v787
  let c16_253 : Index := 16#32
  ![3, v789.toNat, 16]
def k1_off22 (k1_t2 : Fin k1_t2_loop.trips) (c0_i32_254 : BitVec 32) : Fin 3 → Nat :=
  let c3_i32_255 : BitVec 32 := 3#32
  let v793 : Index := Scalar.indexCast c3_i32_255
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v792 : BitVec 32 := Scalar.addi v48 c0_i32_254
  let v794 : Index := Scalar.indexCast v792
  let c32_256 : Index := 32#32
  ![3, v794.toNat, 32]
def k1_off23 (k1_t2 : Fin k1_t2_loop.trips) (c0_i32_311 : BitVec 32) : Fin 3 → Nat :=
  let c4_i32_312 : BitVec 32 := 4#32
  let v1014 : Index := Scalar.indexCast c4_i32_312
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1013 : BitVec 32 := Scalar.addi v48 c0_i32_311
  let v1015 : Index := Scalar.indexCast v1013
  let c0_313 : Index := 0#32
  ![4, v1015.toNat, 0]
def k1_off24 (k1_t2 : Fin k1_t2_loop.trips) (c0_i32_314 : BitVec 32) : Fin 3 → Nat :=
  let c4_i32_315 : BitVec 32 := 4#32
  let v1019 : Index := Scalar.indexCast c4_i32_315
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1018 : BitVec 32 := Scalar.addi v48 c0_i32_314
  let v1020 : Index := Scalar.indexCast v1018
  let c16_316 : Index := 16#32
  ![4, v1020.toNat, 16]
def k1_off25 (k1_t2 : Fin k1_t2_loop.trips) (c0_i32_317 : BitVec 32) : Fin 3 → Nat :=
  let c4_i32_318 : BitVec 32 := 4#32
  let v1024 : Index := Scalar.indexCast c4_i32_318
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1023 : BitVec 32 := Scalar.addi v48 c0_i32_317
  let v1025 : Index := Scalar.indexCast v1023
  let c32_319 : Index := 32#32
  ![4, v1025.toNat, 32]
def k1_off26 (k1_t2 : Fin k1_t2_loop.trips) (c0_i32_374 : BitVec 32) : Fin 3 → Nat :=
  let c5_i32_375 : BitVec 32 := 5#32
  let v1245 : Index := Scalar.indexCast c5_i32_375
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1244 : BitVec 32 := Scalar.addi v48 c0_i32_374
  let v1246 : Index := Scalar.indexCast v1244
  let c0_376 : Index := 0#32
  ![5, v1246.toNat, 0]
def k1_off27 (k1_t2 : Fin k1_t2_loop.trips) (c0_i32_377 : BitVec 32) : Fin 3 → Nat :=
  let c5_i32_378 : BitVec 32 := 5#32
  let v1250 : Index := Scalar.indexCast c5_i32_378
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1249 : BitVec 32 := Scalar.addi v48 c0_i32_377
  let v1251 : Index := Scalar.indexCast v1249
  let c16_379 : Index := 16#32
  ![5, v1251.toNat, 16]
def k1_off28 (k1_t2 : Fin k1_t2_loop.trips) (c0_i32_380 : BitVec 32) : Fin 3 → Nat :=
  let c5_i32_381 : BitVec 32 := 5#32
  let v1255 : Index := Scalar.indexCast c5_i32_381
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1254 : BitVec 32 := Scalar.addi v48 c0_i32_380
  let v1256 : Index := Scalar.indexCast v1254
  let c32_382 : Index := 32#32
  ![5, v1256.toNat, 32]
def k1_off29 (k1_t2 : Fin k1_t2_loop.trips) (c0_i32_437 : BitVec 32) : Fin 3 → Nat :=
  let c6_i32_438 : BitVec 32 := 6#32
  let v1476 : Index := Scalar.indexCast c6_i32_438
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1475 : BitVec 32 := Scalar.addi v48 c0_i32_437
  let v1477 : Index := Scalar.indexCast v1475
  let c0_439 : Index := 0#32
  ![6, v1477.toNat, 0]
def k1_off30 (k1_t2 : Fin k1_t2_loop.trips) (c0_i32_440 : BitVec 32) : Fin 3 → Nat :=
  let c6_i32_441 : BitVec 32 := 6#32
  let v1481 : Index := Scalar.indexCast c6_i32_441
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1480 : BitVec 32 := Scalar.addi v48 c0_i32_440
  let v1482 : Index := Scalar.indexCast v1480
  let c16_442 : Index := 16#32
  ![6, v1482.toNat, 16]
def k1_off31 (k1_t2 : Fin k1_t2_loop.trips) (c0_i32_443 : BitVec 32) : Fin 3 → Nat :=
  let c6_i32_444 : BitVec 32 := 6#32
  let v1486 : Index := Scalar.indexCast c6_i32_444
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1485 : BitVec 32 := Scalar.addi v48 c0_i32_443
  let v1487 : Index := Scalar.indexCast v1485
  let c32_445 : Index := 32#32
  ![6, v1487.toNat, 32]
def k1_off32 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v1707 : Index := Scalar.indexCast v45
  let c0_500 : Index := 0#32
  ![v1707.toNat, 0]
def k1_off33 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_501 : BitVec 32 := 1#32
  let v1712 : BitVec 32 := Scalar.addi v45 c1_i32_501
  let v1713 : Index := Scalar.indexCast v1712
  let c0_502 : Index := 0#32
  ![v1713.toNat, 0]
def k1_off34 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v1718 : Index := Scalar.indexCast v45
  let c16_503 : Index := 16#32
  ![v1718.toNat, 16]
def k1_off35 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_504 : BitVec 32 := 1#32
  let v1723 : BitVec 32 := Scalar.addi v45 c1_i32_504
  let v1724 : Index := Scalar.indexCast v1723
  let c16_505 : Index := 16#32
  ![v1724.toNat, 16]
def k1_off36 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v1729 : Index := Scalar.indexCast v45
  let c32_506 : Index := 32#32
  ![v1729.toNat, 32]
def k1_off37 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_507 : BitVec 32 := 1#32
  let v1734 : BitVec 32 := Scalar.addi v45 c1_i32_507
  let v1735 : Index := Scalar.indexCast v1734
  let c32_508 : Index := 32#32
  ![v1735.toNat, 32]
def k1_off38 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v1742 : Index := Scalar.indexCast v45
  let c64 : Index := 64#32
  ![v1742.toNat, 64]
def k1_off39 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v1745 : Index := Scalar.indexCast v45
  let c80 : Index := 80#32
  ![v1745.toNat, 80]
def k1_off40 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v1748 : Index := Scalar.indexCast v45
  let c96 : Index := 96#32
  ![v1748.toNat, 96]
def k1_off41 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_512 : BitVec 32 := 1#32
  let v1755 : BitVec 32 := Scalar.addi v45 c1_i32_512
  let v1756 : Index := Scalar.indexCast v1755
  let c64_513 : Index := 64#32
  ![v1756.toNat, 64]
def k1_off42 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_514 : BitVec 32 := 1#32
  let v1759 : BitVec 32 := Scalar.addi v45 c1_i32_514
  let v1760 : Index := Scalar.indexCast v1759
  let c80_515 : Index := 80#32
  ![v1760.toNat, 80]
def k1_off43 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_516 : BitVec 32 := 1#32
  let v1763 : BitVec 32 := Scalar.addi v45 c1_i32_516
  let v1764 : Index := Scalar.indexCast v1763
  let c96_517 : Index := 96#32
  ![v1764.toNat, 96]
def k1_off44 (k1_t2 : Fin k1_t2_loop.trips) (c0_i32_530 : BitVec 32) : Fin 3 → Nat :=
  let c0_i32_531 : BitVec 32 := 0#32
  let v1780 : Index := Scalar.indexCast c0_i32_531
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1779 : BitVec 32 := Scalar.addi v48 c0_i32_530
  let v1781 : Index := Scalar.indexCast v1779
  let c48_532 : Index := 48#32
  ![0, v1781.toNat, 48]
def k1_off45 (k1_t2 : Fin k1_t2_loop.trips) (c0_i32_533 : BitVec 32) : Fin 3 → Nat :=
  let c0_i32_534 : BitVec 32 := 0#32
  let v1785 : Index := Scalar.indexCast c0_i32_534
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1784 : BitVec 32 := Scalar.addi v48 c0_i32_533
  let v1786 : Index := Scalar.indexCast v1784
  let c64_535 : Index := 64#32
  ![0, v1786.toNat, 64]
def k1_off46 (k1_t2 : Fin k1_t2_loop.trips) (c0_i32_536 : BitVec 32) : Fin 3 → Nat :=
  let c0_i32_537 : BitVec 32 := 0#32
  let v1790 : Index := Scalar.indexCast c0_i32_537
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v1789 : BitVec 32 := Scalar.addi v48 c0_i32_536
  let v1791 : Index := Scalar.indexCast v1789
  let c80_538 : Index := 80#32
  ![0, v1791.toNat, 80]
def k1_off47 (k1_t2 : Fin k1_t2_loop.trips) (c0_i32_593 : BitVec 32) : Fin 3 → Nat :=
  let c1_i32_594 : BitVec 32 := 1#32
  let v2011 : Index := Scalar.indexCast c1_i32_594
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2010 : BitVec 32 := Scalar.addi v48 c0_i32_593
  let v2012 : Index := Scalar.indexCast v2010
  let c48_595 : Index := 48#32
  ![1, v2012.toNat, 48]
def k1_off48 (k1_t2 : Fin k1_t2_loop.trips) (c0_i32_596 : BitVec 32) : Fin 3 → Nat :=
  let c1_i32_597 : BitVec 32 := 1#32
  let v2016 : Index := Scalar.indexCast c1_i32_597
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2015 : BitVec 32 := Scalar.addi v48 c0_i32_596
  let v2017 : Index := Scalar.indexCast v2015
  let c64_598 : Index := 64#32
  ![1, v2017.toNat, 64]
def k1_off49 (k1_t2 : Fin k1_t2_loop.trips) (c0_i32_599 : BitVec 32) : Fin 3 → Nat :=
  let c1_i32_600 : BitVec 32 := 1#32
  let v2021 : Index := Scalar.indexCast c1_i32_600
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2020 : BitVec 32 := Scalar.addi v48 c0_i32_599
  let v2022 : Index := Scalar.indexCast v2020
  let c80_601 : Index := 80#32
  ![1, v2022.toNat, 80]
def k1_off50 (k1_t2 : Fin k1_t2_loop.trips) (c0_i32_656 : BitVec 32) : Fin 3 → Nat :=
  let c2_i32_657 : BitVec 32 := 2#32
  let v2242 : Index := Scalar.indexCast c2_i32_657
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2241 : BitVec 32 := Scalar.addi v48 c0_i32_656
  let v2243 : Index := Scalar.indexCast v2241
  let c48_658 : Index := 48#32
  ![2, v2243.toNat, 48]
def k1_off51 (k1_t2 : Fin k1_t2_loop.trips) (c0_i32_659 : BitVec 32) : Fin 3 → Nat :=
  let c2_i32_660 : BitVec 32 := 2#32
  let v2247 : Index := Scalar.indexCast c2_i32_660
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2246 : BitVec 32 := Scalar.addi v48 c0_i32_659
  let v2248 : Index := Scalar.indexCast v2246
  let c64_661 : Index := 64#32
  ![2, v2248.toNat, 64]
def k1_off52 (k1_t2 : Fin k1_t2_loop.trips) (c0_i32_662 : BitVec 32) : Fin 3 → Nat :=
  let c2_i32_663 : BitVec 32 := 2#32
  let v2252 : Index := Scalar.indexCast c2_i32_663
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2251 : BitVec 32 := Scalar.addi v48 c0_i32_662
  let v2253 : Index := Scalar.indexCast v2251
  let c80_664 : Index := 80#32
  ![2, v2253.toNat, 80]
def k1_off53 (k1_t2 : Fin k1_t2_loop.trips) (c0_i32_719 : BitVec 32) : Fin 3 → Nat :=
  let c3_i32_720 : BitVec 32 := 3#32
  let v2473 : Index := Scalar.indexCast c3_i32_720
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2472 : BitVec 32 := Scalar.addi v48 c0_i32_719
  let v2474 : Index := Scalar.indexCast v2472
  let c48_721 : Index := 48#32
  ![3, v2474.toNat, 48]
def k1_off54 (k1_t2 : Fin k1_t2_loop.trips) (c0_i32_722 : BitVec 32) : Fin 3 → Nat :=
  let c3_i32_723 : BitVec 32 := 3#32
  let v2478 : Index := Scalar.indexCast c3_i32_723
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2477 : BitVec 32 := Scalar.addi v48 c0_i32_722
  let v2479 : Index := Scalar.indexCast v2477
  let c64_724 : Index := 64#32
  ![3, v2479.toNat, 64]
def k1_off55 (k1_t2 : Fin k1_t2_loop.trips) (c0_i32_725 : BitVec 32) : Fin 3 → Nat :=
  let c3_i32_726 : BitVec 32 := 3#32
  let v2483 : Index := Scalar.indexCast c3_i32_726
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2482 : BitVec 32 := Scalar.addi v48 c0_i32_725
  let v2484 : Index := Scalar.indexCast v2482
  let c80_727 : Index := 80#32
  ![3, v2484.toNat, 80]
def k1_off56 (k1_t2 : Fin k1_t2_loop.trips) (c0_i32_782 : BitVec 32) : Fin 3 → Nat :=
  let c4_i32_783 : BitVec 32 := 4#32
  let v2704 : Index := Scalar.indexCast c4_i32_783
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2703 : BitVec 32 := Scalar.addi v48 c0_i32_782
  let v2705 : Index := Scalar.indexCast v2703
  let c48_784 : Index := 48#32
  ![4, v2705.toNat, 48]
def k1_off57 (k1_t2 : Fin k1_t2_loop.trips) (c0_i32_785 : BitVec 32) : Fin 3 → Nat :=
  let c4_i32_786 : BitVec 32 := 4#32
  let v2709 : Index := Scalar.indexCast c4_i32_786
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2708 : BitVec 32 := Scalar.addi v48 c0_i32_785
  let v2710 : Index := Scalar.indexCast v2708
  let c64_787 : Index := 64#32
  ![4, v2710.toNat, 64]
def k1_off58 (k1_t2 : Fin k1_t2_loop.trips) (c0_i32_788 : BitVec 32) : Fin 3 → Nat :=
  let c4_i32_789 : BitVec 32 := 4#32
  let v2714 : Index := Scalar.indexCast c4_i32_789
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2713 : BitVec 32 := Scalar.addi v48 c0_i32_788
  let v2715 : Index := Scalar.indexCast v2713
  let c80_790 : Index := 80#32
  ![4, v2715.toNat, 80]
def k1_off59 (k1_t2 : Fin k1_t2_loop.trips) (c0_i32_845 : BitVec 32) : Fin 3 → Nat :=
  let c5_i32_846 : BitVec 32 := 5#32
  let v2935 : Index := Scalar.indexCast c5_i32_846
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2934 : BitVec 32 := Scalar.addi v48 c0_i32_845
  let v2936 : Index := Scalar.indexCast v2934
  let c48_847 : Index := 48#32
  ![5, v2936.toNat, 48]
def k1_off60 (k1_t2 : Fin k1_t2_loop.trips) (c0_i32_848 : BitVec 32) : Fin 3 → Nat :=
  let c5_i32_849 : BitVec 32 := 5#32
  let v2940 : Index := Scalar.indexCast c5_i32_849
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2939 : BitVec 32 := Scalar.addi v48 c0_i32_848
  let v2941 : Index := Scalar.indexCast v2939
  let c64_850 : Index := 64#32
  ![5, v2941.toNat, 64]
def k1_off61 (k1_t2 : Fin k1_t2_loop.trips) (c0_i32_851 : BitVec 32) : Fin 3 → Nat :=
  let c5_i32_852 : BitVec 32 := 5#32
  let v2945 : Index := Scalar.indexCast c5_i32_852
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v2944 : BitVec 32 := Scalar.addi v48 c0_i32_851
  let v2946 : Index := Scalar.indexCast v2944
  let c80_853 : Index := 80#32
  ![5, v2946.toNat, 80]
def k1_off62 (k1_t2 : Fin k1_t2_loop.trips) (c0_i32_908 : BitVec 32) : Fin 3 → Nat :=
  let c6_i32_909 : BitVec 32 := 6#32
  let v3166 : Index := Scalar.indexCast c6_i32_909
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3165 : BitVec 32 := Scalar.addi v48 c0_i32_908
  let v3167 : Index := Scalar.indexCast v3165
  let c48_910 : Index := 48#32
  ![6, v3167.toNat, 48]
def k1_off63 (k1_t2 : Fin k1_t2_loop.trips) (c0_i32_911 : BitVec 32) : Fin 3 → Nat :=
  let c6_i32_912 : BitVec 32 := 6#32
  let v3171 : Index := Scalar.indexCast c6_i32_912
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3170 : BitVec 32 := Scalar.addi v48 c0_i32_911
  let v3172 : Index := Scalar.indexCast v3170
  let c64_913 : Index := 64#32
  ![6, v3172.toNat, 64]
def k1_off64 (k1_t2 : Fin k1_t2_loop.trips) (c0_i32_914 : BitVec 32) : Fin 3 → Nat :=
  let c6_i32_915 : BitVec 32 := 6#32
  let v3176 : Index := Scalar.indexCast c6_i32_915
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3175 : BitVec 32 := Scalar.addi v48 c0_i32_914
  let v3177 : Index := Scalar.indexCast v3175
  let c80_916 : Index := 80#32
  ![6, v3177.toNat, 80]
def k1_off65 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v3397 : Index := Scalar.indexCast v45
  let c48_971 : Index := 48#32
  ![v3397.toNat, 48]
def k1_off66 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_972 : BitVec 32 := 1#32
  let v3402 : BitVec 32 := Scalar.addi v45 c1_i32_972
  let v3403 : Index := Scalar.indexCast v3402
  let c48_973 : Index := 48#32
  ![v3403.toNat, 48]
def k1_off67 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v3408 : Index := Scalar.indexCast v45
  let c64_974 : Index := 64#32
  ![v3408.toNat, 64]
def k1_off68 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_975 : BitVec 32 := 1#32
  let v3413 : BitVec 32 := Scalar.addi v45 c1_i32_975
  let v3414 : Index := Scalar.indexCast v3413
  let c64_976 : Index := 64#32
  ![v3414.toNat, 64]
def k1_off69 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v3419 : Index := Scalar.indexCast v45
  let c80_977 : Index := 80#32
  ![v3419.toNat, 80]
def k1_off70 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_978 : BitVec 32 := 1#32
  let v3424 : BitVec 32 := Scalar.addi v45 c1_i32_978
  let v3425 : Index := Scalar.indexCast v3424
  let c80_979 : Index := 80#32
  ![v3425.toNat, 80]
def k1_off71 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v3432 : Index := Scalar.indexCast v45
  let c112 : Index := 112#32
  ![v3432.toNat, 112]
def k1_off72 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v3435 : Index := Scalar.indexCast v45
  let c128 : Index := 128#32
  ![v3435.toNat, 128]
def k1_off73 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v3438 : Index := Scalar.indexCast v45
  let c144 : Index := 144#32
  ![v3438.toNat, 144]
def k1_off74 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_983 : BitVec 32 := 1#32
  let v3445 : BitVec 32 := Scalar.addi v45 c1_i32_983
  let v3446 : Index := Scalar.indexCast v3445
  let c112_984 : Index := 112#32
  ![v3446.toNat, 112]
def k1_off75 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_985 : BitVec 32 := 1#32
  let v3449 : BitVec 32 := Scalar.addi v45 c1_i32_985
  let v3450 : Index := Scalar.indexCast v3449
  let c128_986 : Index := 128#32
  ![v3450.toNat, 128]
def k1_off76 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_987 : BitVec 32 := 1#32
  let v3453 : BitVec 32 := Scalar.addi v45 c1_i32_987
  let v3454 : Index := Scalar.indexCast v3453
  let c144_988 : Index := 144#32
  ![v3454.toNat, 144]
def k1_off77 (k1_t2 : Fin k1_t2_loop.trips) (c0_i32_1001 : BitVec 32) : Fin 3 → Nat :=
  let c0_i32_1002 : BitVec 32 := 0#32
  let v3470 : Index := Scalar.indexCast c0_i32_1002
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3469 : BitVec 32 := Scalar.addi v48 c0_i32_1001
  let v3471 : Index := Scalar.indexCast v3469
  let c96_1003 : Index := 96#32
  ![0, v3471.toNat, 96]
def k1_off78 (k1_t2 : Fin k1_t2_loop.trips) (c0_i32_1004 : BitVec 32) : Fin 3 → Nat :=
  let c0_i32_1005 : BitVec 32 := 0#32
  let v3475 : Index := Scalar.indexCast c0_i32_1005
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3474 : BitVec 32 := Scalar.addi v48 c0_i32_1004
  let v3476 : Index := Scalar.indexCast v3474
  let c112_1006 : Index := 112#32
  ![0, v3476.toNat, 112]
def k1_off79 (k1_t2 : Fin k1_t2_loop.trips) (c0_i32_1007 : BitVec 32) : Fin 3 → Nat :=
  let c0_i32_1008 : BitVec 32 := 0#32
  let v3480 : Index := Scalar.indexCast c0_i32_1008
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3479 : BitVec 32 := Scalar.addi v48 c0_i32_1007
  let v3481 : Index := Scalar.indexCast v3479
  let c128_1009 : Index := 128#32
  ![0, v3481.toNat, 128]
def k1_off80 (k1_t2 : Fin k1_t2_loop.trips) (c0_i32_1064 : BitVec 32) : Fin 3 → Nat :=
  let c1_i32_1065 : BitVec 32 := 1#32
  let v3701 : Index := Scalar.indexCast c1_i32_1065
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3700 : BitVec 32 := Scalar.addi v48 c0_i32_1064
  let v3702 : Index := Scalar.indexCast v3700
  let c96_1066 : Index := 96#32
  ![1, v3702.toNat, 96]
def k1_off81 (k1_t2 : Fin k1_t2_loop.trips) (c0_i32_1067 : BitVec 32) : Fin 3 → Nat :=
  let c1_i32_1068 : BitVec 32 := 1#32
  let v3706 : Index := Scalar.indexCast c1_i32_1068
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3705 : BitVec 32 := Scalar.addi v48 c0_i32_1067
  let v3707 : Index := Scalar.indexCast v3705
  let c112_1069 : Index := 112#32
  ![1, v3707.toNat, 112]
def k1_off82 (k1_t2 : Fin k1_t2_loop.trips) (c0_i32_1070 : BitVec 32) : Fin 3 → Nat :=
  let c1_i32_1071 : BitVec 32 := 1#32
  let v3711 : Index := Scalar.indexCast c1_i32_1071
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3710 : BitVec 32 := Scalar.addi v48 c0_i32_1070
  let v3712 : Index := Scalar.indexCast v3710
  let c128_1072 : Index := 128#32
  ![1, v3712.toNat, 128]
def k1_off83 (k1_t2 : Fin k1_t2_loop.trips) (c0_i32_1127 : BitVec 32) : Fin 3 → Nat :=
  let c2_i32_1128 : BitVec 32 := 2#32
  let v3932 : Index := Scalar.indexCast c2_i32_1128
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3931 : BitVec 32 := Scalar.addi v48 c0_i32_1127
  let v3933 : Index := Scalar.indexCast v3931
  let c96_1129 : Index := 96#32
  ![2, v3933.toNat, 96]
def k1_off84 (k1_t2 : Fin k1_t2_loop.trips) (c0_i32_1130 : BitVec 32) : Fin 3 → Nat :=
  let c2_i32_1131 : BitVec 32 := 2#32
  let v3937 : Index := Scalar.indexCast c2_i32_1131
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3936 : BitVec 32 := Scalar.addi v48 c0_i32_1130
  let v3938 : Index := Scalar.indexCast v3936
  let c112_1132 : Index := 112#32
  ![2, v3938.toNat, 112]
def k1_off85 (k1_t2 : Fin k1_t2_loop.trips) (c0_i32_1133 : BitVec 32) : Fin 3 → Nat :=
  let c2_i32_1134 : BitVec 32 := 2#32
  let v3942 : Index := Scalar.indexCast c2_i32_1134
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v3941 : BitVec 32 := Scalar.addi v48 c0_i32_1133
  let v3943 : Index := Scalar.indexCast v3941
  let c128_1135 : Index := 128#32
  ![2, v3943.toNat, 128]
def k1_off86 (k1_t2 : Fin k1_t2_loop.trips) (c0_i32_1190 : BitVec 32) : Fin 3 → Nat :=
  let c3_i32_1191 : BitVec 32 := 3#32
  let v4163 : Index := Scalar.indexCast c3_i32_1191
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4162 : BitVec 32 := Scalar.addi v48 c0_i32_1190
  let v4164 : Index := Scalar.indexCast v4162
  let c96_1192 : Index := 96#32
  ![3, v4164.toNat, 96]
def k1_off87 (k1_t2 : Fin k1_t2_loop.trips) (c0_i32_1193 : BitVec 32) : Fin 3 → Nat :=
  let c3_i32_1194 : BitVec 32 := 3#32
  let v4168 : Index := Scalar.indexCast c3_i32_1194
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4167 : BitVec 32 := Scalar.addi v48 c0_i32_1193
  let v4169 : Index := Scalar.indexCast v4167
  let c112_1195 : Index := 112#32
  ![3, v4169.toNat, 112]
def k1_off88 (k1_t2 : Fin k1_t2_loop.trips) (c0_i32_1196 : BitVec 32) : Fin 3 → Nat :=
  let c3_i32_1197 : BitVec 32 := 3#32
  let v4173 : Index := Scalar.indexCast c3_i32_1197
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4172 : BitVec 32 := Scalar.addi v48 c0_i32_1196
  let v4174 : Index := Scalar.indexCast v4172
  let c128_1198 : Index := 128#32
  ![3, v4174.toNat, 128]
def k1_off89 (k1_t2 : Fin k1_t2_loop.trips) (c0_i32_1253 : BitVec 32) : Fin 3 → Nat :=
  let c4_i32_1254 : BitVec 32 := 4#32
  let v4394 : Index := Scalar.indexCast c4_i32_1254
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4393 : BitVec 32 := Scalar.addi v48 c0_i32_1253
  let v4395 : Index := Scalar.indexCast v4393
  let c96_1255 : Index := 96#32
  ![4, v4395.toNat, 96]
def k1_off90 (k1_t2 : Fin k1_t2_loop.trips) (c0_i32_1256 : BitVec 32) : Fin 3 → Nat :=
  let c4_i32_1257 : BitVec 32 := 4#32
  let v4399 : Index := Scalar.indexCast c4_i32_1257
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4398 : BitVec 32 := Scalar.addi v48 c0_i32_1256
  let v4400 : Index := Scalar.indexCast v4398
  let c112_1258 : Index := 112#32
  ![4, v4400.toNat, 112]
def k1_off91 (k1_t2 : Fin k1_t2_loop.trips) (c0_i32_1259 : BitVec 32) : Fin 3 → Nat :=
  let c4_i32_1260 : BitVec 32 := 4#32
  let v4404 : Index := Scalar.indexCast c4_i32_1260
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4403 : BitVec 32 := Scalar.addi v48 c0_i32_1259
  let v4405 : Index := Scalar.indexCast v4403
  let c128_1261 : Index := 128#32
  ![4, v4405.toNat, 128]
def k1_off92 (k1_t2 : Fin k1_t2_loop.trips) (c0_i32_1316 : BitVec 32) : Fin 3 → Nat :=
  let c5_i32_1317 : BitVec 32 := 5#32
  let v4625 : Index := Scalar.indexCast c5_i32_1317
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4624 : BitVec 32 := Scalar.addi v48 c0_i32_1316
  let v4626 : Index := Scalar.indexCast v4624
  let c96_1318 : Index := 96#32
  ![5, v4626.toNat, 96]
def k1_off93 (k1_t2 : Fin k1_t2_loop.trips) (c0_i32_1319 : BitVec 32) : Fin 3 → Nat :=
  let c5_i32_1320 : BitVec 32 := 5#32
  let v4630 : Index := Scalar.indexCast c5_i32_1320
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4629 : BitVec 32 := Scalar.addi v48 c0_i32_1319
  let v4631 : Index := Scalar.indexCast v4629
  let c112_1321 : Index := 112#32
  ![5, v4631.toNat, 112]
def k1_off94 (k1_t2 : Fin k1_t2_loop.trips) (c0_i32_1322 : BitVec 32) : Fin 3 → Nat :=
  let c5_i32_1323 : BitVec 32 := 5#32
  let v4635 : Index := Scalar.indexCast c5_i32_1323
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4634 : BitVec 32 := Scalar.addi v48 c0_i32_1322
  let v4636 : Index := Scalar.indexCast v4634
  let c128_1324 : Index := 128#32
  ![5, v4636.toNat, 128]
def k1_off95 (k1_t2 : Fin k1_t2_loop.trips) (c0_i32_1379 : BitVec 32) : Fin 3 → Nat :=
  let c6_i32_1380 : BitVec 32 := 6#32
  let v4856 : Index := Scalar.indexCast c6_i32_1380
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4855 : BitVec 32 := Scalar.addi v48 c0_i32_1379
  let v4857 : Index := Scalar.indexCast v4855
  let c96_1381 : Index := 96#32
  ![6, v4857.toNat, 96]
def k1_off96 (k1_t2 : Fin k1_t2_loop.trips) (c0_i32_1382 : BitVec 32) : Fin 3 → Nat :=
  let c6_i32_1383 : BitVec 32 := 6#32
  let v4861 : Index := Scalar.indexCast c6_i32_1383
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4860 : BitVec 32 := Scalar.addi v48 c0_i32_1382
  let v4862 : Index := Scalar.indexCast v4860
  let c112_1384 : Index := 112#32
  ![6, v4862.toNat, 112]
def k1_off97 (k1_t2 : Fin k1_t2_loop.trips) (c0_i32_1385 : BitVec 32) : Fin 3 → Nat :=
  let c6_i32_1386 : BitVec 32 := 6#32
  let v4866 : Index := Scalar.indexCast c6_i32_1386
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v4865 : BitVec 32 := Scalar.addi v48 c0_i32_1385
  let v4867 : Index := Scalar.indexCast v4865
  let c128_1387 : Index := 128#32
  ![6, v4867.toNat, 128]
def k1_off98 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v5087 : Index := Scalar.indexCast v45
  let c96_1442 : Index := 96#32
  ![v5087.toNat, 96]
def k1_off99 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_1443 : BitVec 32 := 1#32
  let v5092 : BitVec 32 := Scalar.addi v45 c1_i32_1443
  let v5093 : Index := Scalar.indexCast v5092
  let c96_1444 : Index := 96#32
  ![v5093.toNat, 96]
def k1_off100 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v5098 : Index := Scalar.indexCast v45
  let c112_1445 : Index := 112#32
  ![v5098.toNat, 112]
def k1_off101 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_1446 : BitVec 32 := 1#32
  let v5103 : BitVec 32 := Scalar.addi v45 c1_i32_1446
  let v5104 : Index := Scalar.indexCast v5103
  let c112_1447 : Index := 112#32
  ![v5104.toNat, 112]
def k1_off102 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v5109 : Index := Scalar.indexCast v45
  let c128_1448 : Index := 128#32
  ![v5109.toNat, 128]
def k1_off103 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_1449 : BitVec 32 := 1#32
  let v5114 : BitVec 32 := Scalar.addi v45 c1_i32_1449
  let v5115 : Index := Scalar.indexCast v5114
  let c128_1450 : Index := 128#32
  ![v5115.toNat, 128]
def k1_off104 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v5122 : Index := Scalar.indexCast v45
  let c160 : Index := 160#32
  ![v5122.toNat, 160]
def k1_off105 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v5125 : Index := Scalar.indexCast v45
  let c176 : Index := 176#32
  ![v5125.toNat, 176]
def k1_off106 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v5128 : Index := Scalar.indexCast v45
  let c192 : Index := 192#32
  ![v5128.toNat, 192]
def k1_off107 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_1454 : BitVec 32 := 1#32
  let v5135 : BitVec 32 := Scalar.addi v45 c1_i32_1454
  let v5136 : Index := Scalar.indexCast v5135
  let c160_1455 : Index := 160#32
  ![v5136.toNat, 160]
def k1_off108 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_1456 : BitVec 32 := 1#32
  let v5139 : BitVec 32 := Scalar.addi v45 c1_i32_1456
  let v5140 : Index := Scalar.indexCast v5139
  let c176_1457 : Index := 176#32
  ![v5140.toNat, 176]
def k1_off109 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_1458 : BitVec 32 := 1#32
  let v5143 : BitVec 32 := Scalar.addi v45 c1_i32_1458
  let v5144 : Index := Scalar.indexCast v5143
  let c192_1459 : Index := 192#32
  ![v5144.toNat, 192]
def k1_off110 (k1_t2 : Fin k1_t2_loop.trips) (c0_i32_1472 : BitVec 32) : Fin 3 → Nat :=
  let c0_i32_1473 : BitVec 32 := 0#32
  let v5160 : Index := Scalar.indexCast c0_i32_1473
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5159 : BitVec 32 := Scalar.addi v48 c0_i32_1472
  let v5161 : Index := Scalar.indexCast v5159
  let c144_1474 : Index := 144#32
  ![0, v5161.toNat, 144]
def k1_off111 (k1_t2 : Fin k1_t2_loop.trips) (c0_i32_1475 : BitVec 32) : Fin 3 → Nat :=
  let c0_i32_1476 : BitVec 32 := 0#32
  let v5165 : Index := Scalar.indexCast c0_i32_1476
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5164 : BitVec 32 := Scalar.addi v48 c0_i32_1475
  let v5166 : Index := Scalar.indexCast v5164
  let c160_1477 : Index := 160#32
  ![0, v5166.toNat, 160]
def k1_off112 (k1_t2 : Fin k1_t2_loop.trips) (c0_i32_1478 : BitVec 32) : Fin 3 → Nat :=
  let c0_i32_1479 : BitVec 32 := 0#32
  let v5170 : Index := Scalar.indexCast c0_i32_1479
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5169 : BitVec 32 := Scalar.addi v48 c0_i32_1478
  let v5171 : Index := Scalar.indexCast v5169
  let c176_1480 : Index := 176#32
  ![0, v5171.toNat, 176]
def k1_off113 (k1_t2 : Fin k1_t2_loop.trips) (c0_i32_1535 : BitVec 32) : Fin 3 → Nat :=
  let c1_i32_1536 : BitVec 32 := 1#32
  let v5391 : Index := Scalar.indexCast c1_i32_1536
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5390 : BitVec 32 := Scalar.addi v48 c0_i32_1535
  let v5392 : Index := Scalar.indexCast v5390
  let c144_1537 : Index := 144#32
  ![1, v5392.toNat, 144]
def k1_off114 (k1_t2 : Fin k1_t2_loop.trips) (c0_i32_1538 : BitVec 32) : Fin 3 → Nat :=
  let c1_i32_1539 : BitVec 32 := 1#32
  let v5396 : Index := Scalar.indexCast c1_i32_1539
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5395 : BitVec 32 := Scalar.addi v48 c0_i32_1538
  let v5397 : Index := Scalar.indexCast v5395
  let c160_1540 : Index := 160#32
  ![1, v5397.toNat, 160]
def k1_off115 (k1_t2 : Fin k1_t2_loop.trips) (c0_i32_1541 : BitVec 32) : Fin 3 → Nat :=
  let c1_i32_1542 : BitVec 32 := 1#32
  let v5401 : Index := Scalar.indexCast c1_i32_1542
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5400 : BitVec 32 := Scalar.addi v48 c0_i32_1541
  let v5402 : Index := Scalar.indexCast v5400
  let c176_1543 : Index := 176#32
  ![1, v5402.toNat, 176]
def k1_off116 (k1_t2 : Fin k1_t2_loop.trips) (c0_i32_1598 : BitVec 32) : Fin 3 → Nat :=
  let c2_i32_1599 : BitVec 32 := 2#32
  let v5622 : Index := Scalar.indexCast c2_i32_1599
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5621 : BitVec 32 := Scalar.addi v48 c0_i32_1598
  let v5623 : Index := Scalar.indexCast v5621
  let c144_1600 : Index := 144#32
  ![2, v5623.toNat, 144]
def k1_off117 (k1_t2 : Fin k1_t2_loop.trips) (c0_i32_1601 : BitVec 32) : Fin 3 → Nat :=
  let c2_i32_1602 : BitVec 32 := 2#32
  let v5627 : Index := Scalar.indexCast c2_i32_1602
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5626 : BitVec 32 := Scalar.addi v48 c0_i32_1601
  let v5628 : Index := Scalar.indexCast v5626
  let c160_1603 : Index := 160#32
  ![2, v5628.toNat, 160]
def k1_off118 (k1_t2 : Fin k1_t2_loop.trips) (c0_i32_1604 : BitVec 32) : Fin 3 → Nat :=
  let c2_i32_1605 : BitVec 32 := 2#32
  let v5632 : Index := Scalar.indexCast c2_i32_1605
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5631 : BitVec 32 := Scalar.addi v48 c0_i32_1604
  let v5633 : Index := Scalar.indexCast v5631
  let c176_1606 : Index := 176#32
  ![2, v5633.toNat, 176]
def k1_off119 (k1_t2 : Fin k1_t2_loop.trips) (c0_i32_1661 : BitVec 32) : Fin 3 → Nat :=
  let c3_i32_1662 : BitVec 32 := 3#32
  let v5853 : Index := Scalar.indexCast c3_i32_1662
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5852 : BitVec 32 := Scalar.addi v48 c0_i32_1661
  let v5854 : Index := Scalar.indexCast v5852
  let c144_1663 : Index := 144#32
  ![3, v5854.toNat, 144]
def k1_off120 (k1_t2 : Fin k1_t2_loop.trips) (c0_i32_1664 : BitVec 32) : Fin 3 → Nat :=
  let c3_i32_1665 : BitVec 32 := 3#32
  let v5858 : Index := Scalar.indexCast c3_i32_1665
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5857 : BitVec 32 := Scalar.addi v48 c0_i32_1664
  let v5859 : Index := Scalar.indexCast v5857
  let c160_1666 : Index := 160#32
  ![3, v5859.toNat, 160]
def k1_off121 (k1_t2 : Fin k1_t2_loop.trips) (c0_i32_1667 : BitVec 32) : Fin 3 → Nat :=
  let c3_i32_1668 : BitVec 32 := 3#32
  let v5863 : Index := Scalar.indexCast c3_i32_1668
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v5862 : BitVec 32 := Scalar.addi v48 c0_i32_1667
  let v5864 : Index := Scalar.indexCast v5862
  let c176_1669 : Index := 176#32
  ![3, v5864.toNat, 176]
def k1_off122 (k1_t2 : Fin k1_t2_loop.trips) (c0_i32_1724 : BitVec 32) : Fin 3 → Nat :=
  let c4_i32_1725 : BitVec 32 := 4#32
  let v6084 : Index := Scalar.indexCast c4_i32_1725
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v6083 : BitVec 32 := Scalar.addi v48 c0_i32_1724
  let v6085 : Index := Scalar.indexCast v6083
  let c144_1726 : Index := 144#32
  ![4, v6085.toNat, 144]
def k1_off123 (k1_t2 : Fin k1_t2_loop.trips) (c0_i32_1727 : BitVec 32) : Fin 3 → Nat :=
  let c4_i32_1728 : BitVec 32 := 4#32
  let v6089 : Index := Scalar.indexCast c4_i32_1728
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v6088 : BitVec 32 := Scalar.addi v48 c0_i32_1727
  let v6090 : Index := Scalar.indexCast v6088
  let c160_1729 : Index := 160#32
  ![4, v6090.toNat, 160]
def k1_off124 (k1_t2 : Fin k1_t2_loop.trips) (c0_i32_1730 : BitVec 32) : Fin 3 → Nat :=
  let c4_i32_1731 : BitVec 32 := 4#32
  let v6094 : Index := Scalar.indexCast c4_i32_1731
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v6093 : BitVec 32 := Scalar.addi v48 c0_i32_1730
  let v6095 : Index := Scalar.indexCast v6093
  let c176_1732 : Index := 176#32
  ![4, v6095.toNat, 176]
def k1_off125 (k1_t2 : Fin k1_t2_loop.trips) (c0_i32_1787 : BitVec 32) : Fin 3 → Nat :=
  let c5_i32_1788 : BitVec 32 := 5#32
  let v6315 : Index := Scalar.indexCast c5_i32_1788
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v6314 : BitVec 32 := Scalar.addi v48 c0_i32_1787
  let v6316 : Index := Scalar.indexCast v6314
  let c144_1789 : Index := 144#32
  ![5, v6316.toNat, 144]
def k1_off126 (k1_t2 : Fin k1_t2_loop.trips) (c0_i32_1790 : BitVec 32) : Fin 3 → Nat :=
  let c5_i32_1791 : BitVec 32 := 5#32
  let v6320 : Index := Scalar.indexCast c5_i32_1791
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v6319 : BitVec 32 := Scalar.addi v48 c0_i32_1790
  let v6321 : Index := Scalar.indexCast v6319
  let c160_1792 : Index := 160#32
  ![5, v6321.toNat, 160]
def k1_off127 (k1_t2 : Fin k1_t2_loop.trips) (c0_i32_1793 : BitVec 32) : Fin 3 → Nat :=
  let c5_i32_1794 : BitVec 32 := 5#32
  let v6325 : Index := Scalar.indexCast c5_i32_1794
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v6324 : BitVec 32 := Scalar.addi v48 c0_i32_1793
  let v6326 : Index := Scalar.indexCast v6324
  let c176_1795 : Index := 176#32
  ![5, v6326.toNat, 176]
def k1_off128 (k1_t2 : Fin k1_t2_loop.trips) (c0_i32_1850 : BitVec 32) : Fin 3 → Nat :=
  let c6_i32_1851 : BitVec 32 := 6#32
  let v6546 : Index := Scalar.indexCast c6_i32_1851
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v6545 : BitVec 32 := Scalar.addi v48 c0_i32_1850
  let v6547 : Index := Scalar.indexCast v6545
  let c144_1852 : Index := 144#32
  ![6, v6547.toNat, 144]
def k1_off129 (k1_t2 : Fin k1_t2_loop.trips) (c0_i32_1853 : BitVec 32) : Fin 3 → Nat :=
  let c6_i32_1854 : BitVec 32 := 6#32
  let v6551 : Index := Scalar.indexCast c6_i32_1854
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v6550 : BitVec 32 := Scalar.addi v48 c0_i32_1853
  let v6552 : Index := Scalar.indexCast v6550
  let c160_1855 : Index := 160#32
  ![6, v6552.toNat, 160]
def k1_off130 (k1_t2 : Fin k1_t2_loop.trips) (c0_i32_1856 : BitVec 32) : Fin 3 → Nat :=
  let c6_i32_1857 : BitVec 32 := 6#32
  let v6556 : Index := Scalar.indexCast c6_i32_1857
  let c49_i32_41 : BitVec 32 := 49#32
  let c0_i32_40 : BitVec 32 := 0#32
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c3_i32_39 : BitVec 32 := 3#32
  let v46 : BitVec 32 := Scalar.subi v45 c3_i32_39
  let v47 : BitVec 32 := Scalar.maxsi c0_i32_40 v46
  let v48 : BitVec 32 := Scalar.minsi c49_i32_41 v47
  let v6555 : BitVec 32 := Scalar.addi v48 c0_i32_1856
  let v6557 : Index := Scalar.indexCast v6555
  let c176_1858 : Index := 176#32
  ![6, v6557.toNat, 176]
def k1_off131 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v6777 : Index := Scalar.indexCast v45
  let c144_1913 : Index := 144#32
  ![v6777.toNat, 144]
def k1_off132 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_1914 : BitVec 32 := 1#32
  let v6782 : BitVec 32 := Scalar.addi v45 c1_i32_1914
  let v6783 : Index := Scalar.indexCast v6782
  let c144_1915 : Index := 144#32
  ![v6783.toNat, 144]
def k1_off133 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v6788 : Index := Scalar.indexCast v45
  let c160_1916 : Index := 160#32
  ![v6788.toNat, 160]
def k1_off134 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_1917 : BitVec 32 := 1#32
  let v6793 : BitVec 32 := Scalar.addi v45 c1_i32_1917
  let v6794 : Index := Scalar.indexCast v6793
  let c160_1918 : Index := 160#32
  ![v6794.toNat, 160]
def k1_off135 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let v6799 : Index := Scalar.indexCast v45
  let c176_1919 : Index := 176#32
  ![v6799.toNat, 176]
def k1_off136 (k1_t2 : Fin k1_t2_loop.trips) : Fin 2 → Nat :=
  let c2_i32_38 : BitVec 32 := 2#32
  let c0_i32_22 : BitVec 32 := 0#32
  let c1_i32_23 : BitVec 32 := 1#32
  let arg11 : BitVec 32 := Scf.iv c0_i32_22 c1_i32_23 k1_t2
  let c24_i32_37 : BitVec 32 := 24#32
  let c0_i32_31 : BitVec 32 := 0#32
  let v27 : BitVec 1 := Scalar.cmpi .sgt arg11 c0_i32_31
  let v28 : BitVec 32 := Scalar.extui v27
  let c0_i32_32 : BitVec 32 := 0#32
  let v29 : BitVec 1 := Scalar.cmpi .slt arg11 c0_i32_32
  let v30 : BitVec 32 := Scalar.extui v29
  let v31 : BitVec 32 := Scalar.subi v28 v30
  let c2_i32_30 : BitVec 32 := 2#32
  let c0_i32_33 : BitVec 32 := 0#32
  let v32 : BitVec 1 := Scalar.cmpi .sgt c2_i32_30 c0_i32_33
  let v33 : BitVec 32 := Scalar.extui v32
  let c0_i32_34 : BitVec 32 := 0#32
  let v34 : BitVec 1 := Scalar.cmpi .slt c2_i32_30 c0_i32_34
  let v35 : BitVec 32 := Scalar.extui v34
  let v36 : BitVec 32 := Scalar.subi v33 v35
  let v37 : BitVec 1 := Scalar.cmpi .ne v31 v36
  let v38 : BitVec 32 := Scalar.remsi arg11 c2_i32_30
  let c0_i32_35 : BitVec 32 := 0#32
  let v39 : BitVec 1 := Scalar.cmpi .ne v38 c0_i32_35
  let v40 : BitVec 1 := Scalar.andi v37 v39
  let v26 : BitVec 32 := Scalar.divsi arg11 c2_i32_30
  let c1_i32_36 : BitVec 32 := 1#32
  let v41 : BitVec 32 := Scalar.subi v26 c1_i32_36
  let v42 : BitVec 32 := Scalar.select v40 v41 v26
  let v43 : BitVec 32 := Scalar.muli c24_i32_37 v42
  let v44 : BitVec 32 := Scalar.addi arg11 v43
  let v45 : BitVec 32 := Scalar.muli c2_i32_38 v44
  let c1_i32_1920 : BitVec 32 := 1#32
  let v6804 : BitVec 32 := Scalar.addi v45 c1_i32_1920
  let v6805 : Index := Scalar.indexCast v6804
  let c176_1921 : Index := 176#32
  ![v6805.toNat, 176]
@[reducible] def k1_t3_loop : Scf.Loop 32 :=
  let c2_i32_26 : BitVec 32 := 2#32
  let c24_i32 : BitVec 32 := 24#32
  let v24 : BitVec 32 := Scalar.addi c2_i32_26 c24_i32
  let c1_i32_27 : BitVec 32 := 1#32
  ⟨c2_i32_26, v24, c1_i32_27⟩
def k1_off137 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v28 : Index := Scalar.indexCast v26
  let c0 : Index := 0#32
  ![v28.toNat, 0]
def k1_off138 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v31 : Index := Scalar.indexCast v26
  let c16 : Index := 16#32
  ![v31.toNat, 16]
def k1_off139 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v34 : Index := Scalar.indexCast v26
  let c32 : Index := 32#32
  ![v34.toNat, 32]
def k1_off140 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v37 : Index := Scalar.indexCast v26
  let c48 : Index := 48#32
  ![v37.toNat, 48]
def k1_off141 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_32 : BitVec 32 := 1#32
  let v40 : BitVec 32 := Scalar.addi v26 c1_i32_32
  let v41 : Index := Scalar.indexCast v40
  let c0_33 : Index := 0#32
  ![v41.toNat, 0]
def k1_off142 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_34 : BitVec 32 := 1#32
  let v44 : BitVec 32 := Scalar.addi v26 c1_i32_34
  let v45 : Index := Scalar.indexCast v44
  let c16_35 : Index := 16#32
  ![v45.toNat, 16]
def k1_off143 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_36 : BitVec 32 := 1#32
  let v48 : BitVec 32 := Scalar.addi v26 c1_i32_36
  let v49 : Index := Scalar.indexCast v48
  let c32_37 : Index := 32#32
  ![v49.toNat, 32]
def k1_off144 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_38 : BitVec 32 := 1#32
  let v52 : BitVec 32 := Scalar.addi v26 c1_i32_38
  let v53 : Index := Scalar.indexCast v52
  let c48_39 : Index := 48#32
  ![v53.toNat, 48]
def k1_off145 (k1_t3 : Fin k1_t3_loop.trips) (c0_i32_51 : BitVec 32) : Fin 3 → Nat :=
  let c0_i32_52 : BitVec 32 := 0#32
  let v69 : Index := Scalar.indexCast c0_i32_52
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v68 : BitVec 32 := Scalar.addi v27 c0_i32_51
  let v70 : Index := Scalar.indexCast v68
  let c0_53 : Index := 0#32
  ![0, v70.toNat, 0]
def k1_off146 (k1_t3 : Fin k1_t3_loop.trips) (c0_i32_54 : BitVec 32) : Fin 3 → Nat :=
  let c0_i32_55 : BitVec 32 := 0#32
  let v74 : Index := Scalar.indexCast c0_i32_55
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v73 : BitVec 32 := Scalar.addi v27 c0_i32_54
  let v75 : Index := Scalar.indexCast v73
  let c16_56 : Index := 16#32
  ![0, v75.toNat, 16]
def k1_off147 (k1_t3 : Fin k1_t3_loop.trips) (c0_i32_57 : BitVec 32) : Fin 3 → Nat :=
  let c0_i32_58 : BitVec 32 := 0#32
  let v79 : Index := Scalar.indexCast c0_i32_58
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v78 : BitVec 32 := Scalar.addi v27 c0_i32_57
  let v80 : Index := Scalar.indexCast v78
  let c32_59 : Index := 32#32
  ![0, v80.toNat, 32]
def k1_off148 (k1_t3 : Fin k1_t3_loop.trips) (c0_i32_120 : BitVec 32) : Fin 3 → Nat :=
  let c1_i32_121 : BitVec 32 := 1#32
  let v315 : Index := Scalar.indexCast c1_i32_121
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v314 : BitVec 32 := Scalar.addi v27 c0_i32_120
  let v316 : Index := Scalar.indexCast v314
  let c0_122 : Index := 0#32
  ![1, v316.toNat, 0]
def k1_off149 (k1_t3 : Fin k1_t3_loop.trips) (c0_i32_123 : BitVec 32) : Fin 3 → Nat :=
  let c1_i32_124 : BitVec 32 := 1#32
  let v320 : Index := Scalar.indexCast c1_i32_124
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v319 : BitVec 32 := Scalar.addi v27 c0_i32_123
  let v321 : Index := Scalar.indexCast v319
  let c16_125 : Index := 16#32
  ![1, v321.toNat, 16]
def k1_off150 (k1_t3 : Fin k1_t3_loop.trips) (c0_i32_126 : BitVec 32) : Fin 3 → Nat :=
  let c1_i32_127 : BitVec 32 := 1#32
  let v325 : Index := Scalar.indexCast c1_i32_127
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v324 : BitVec 32 := Scalar.addi v27 c0_i32_126
  let v326 : Index := Scalar.indexCast v324
  let c32_128 : Index := 32#32
  ![1, v326.toNat, 32]
def k1_off151 (k1_t3 : Fin k1_t3_loop.trips) (c0_i32_192 : BitVec 32) : Fin 3 → Nat :=
  let c2_i32_193 : BitVec 32 := 2#32
  let v561 : Index := Scalar.indexCast c2_i32_193
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v560 : BitVec 32 := Scalar.addi v27 c0_i32_192
  let v562 : Index := Scalar.indexCast v560
  let c0_194 : Index := 0#32
  ![2, v562.toNat, 0]
def k1_off152 (k1_t3 : Fin k1_t3_loop.trips) (c0_i32_195 : BitVec 32) : Fin 3 → Nat :=
  let c2_i32_196 : BitVec 32 := 2#32
  let v566 : Index := Scalar.indexCast c2_i32_196
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v565 : BitVec 32 := Scalar.addi v27 c0_i32_195
  let v567 : Index := Scalar.indexCast v565
  let c16_197 : Index := 16#32
  ![2, v567.toNat, 16]
def k1_off153 (k1_t3 : Fin k1_t3_loop.trips) (c0_i32_198 : BitVec 32) : Fin 3 → Nat :=
  let c2_i32_199 : BitVec 32 := 2#32
  let v571 : Index := Scalar.indexCast c2_i32_199
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v570 : BitVec 32 := Scalar.addi v27 c0_i32_198
  let v572 : Index := Scalar.indexCast v570
  let c32_200 : Index := 32#32
  ![2, v572.toNat, 32]
def k1_off154 (k1_t3 : Fin k1_t3_loop.trips) (c0_i32_264 : BitVec 32) : Fin 3 → Nat :=
  let c3_i32_265 : BitVec 32 := 3#32
  let v807 : Index := Scalar.indexCast c3_i32_265
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v806 : BitVec 32 := Scalar.addi v27 c0_i32_264
  let v808 : Index := Scalar.indexCast v806
  let c0_266 : Index := 0#32
  ![3, v808.toNat, 0]
def k1_off155 (k1_t3 : Fin k1_t3_loop.trips) (c0_i32_267 : BitVec 32) : Fin 3 → Nat :=
  let c3_i32_268 : BitVec 32 := 3#32
  let v812 : Index := Scalar.indexCast c3_i32_268
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v811 : BitVec 32 := Scalar.addi v27 c0_i32_267
  let v813 : Index := Scalar.indexCast v811
  let c16_269 : Index := 16#32
  ![3, v813.toNat, 16]
def k1_off156 (k1_t3 : Fin k1_t3_loop.trips) (c0_i32_270 : BitVec 32) : Fin 3 → Nat :=
  let c3_i32_271 : BitVec 32 := 3#32
  let v817 : Index := Scalar.indexCast c3_i32_271
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v816 : BitVec 32 := Scalar.addi v27 c0_i32_270
  let v818 : Index := Scalar.indexCast v816
  let c32_272 : Index := 32#32
  ![3, v818.toNat, 32]
def k1_off157 (k1_t3 : Fin k1_t3_loop.trips) (c0_i32_336 : BitVec 32) : Fin 3 → Nat :=
  let c4_i32_337 : BitVec 32 := 4#32
  let v1053 : Index := Scalar.indexCast c4_i32_337
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1052 : BitVec 32 := Scalar.addi v27 c0_i32_336
  let v1054 : Index := Scalar.indexCast v1052
  let c0_338 : Index := 0#32
  ![4, v1054.toNat, 0]
def k1_off158 (k1_t3 : Fin k1_t3_loop.trips) (c0_i32_339 : BitVec 32) : Fin 3 → Nat :=
  let c4_i32_340 : BitVec 32 := 4#32
  let v1058 : Index := Scalar.indexCast c4_i32_340
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1057 : BitVec 32 := Scalar.addi v27 c0_i32_339
  let v1059 : Index := Scalar.indexCast v1057
  let c16_341 : Index := 16#32
  ![4, v1059.toNat, 16]
def k1_off159 (k1_t3 : Fin k1_t3_loop.trips) (c0_i32_342 : BitVec 32) : Fin 3 → Nat :=
  let c4_i32_343 : BitVec 32 := 4#32
  let v1063 : Index := Scalar.indexCast c4_i32_343
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1062 : BitVec 32 := Scalar.addi v27 c0_i32_342
  let v1064 : Index := Scalar.indexCast v1062
  let c32_344 : Index := 32#32
  ![4, v1064.toNat, 32]
def k1_off160 (k1_t3 : Fin k1_t3_loop.trips) (c0_i32_408 : BitVec 32) : Fin 3 → Nat :=
  let c5_i32_409 : BitVec 32 := 5#32
  let v1299 : Index := Scalar.indexCast c5_i32_409
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1298 : BitVec 32 := Scalar.addi v27 c0_i32_408
  let v1300 : Index := Scalar.indexCast v1298
  let c0_410 : Index := 0#32
  ![5, v1300.toNat, 0]
def k1_off161 (k1_t3 : Fin k1_t3_loop.trips) (c0_i32_411 : BitVec 32) : Fin 3 → Nat :=
  let c5_i32_412 : BitVec 32 := 5#32
  let v1304 : Index := Scalar.indexCast c5_i32_412
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1303 : BitVec 32 := Scalar.addi v27 c0_i32_411
  let v1305 : Index := Scalar.indexCast v1303
  let c16_413 : Index := 16#32
  ![5, v1305.toNat, 16]
def k1_off162 (k1_t3 : Fin k1_t3_loop.trips) (c0_i32_414 : BitVec 32) : Fin 3 → Nat :=
  let c5_i32_415 : BitVec 32 := 5#32
  let v1309 : Index := Scalar.indexCast c5_i32_415
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1308 : BitVec 32 := Scalar.addi v27 c0_i32_414
  let v1310 : Index := Scalar.indexCast v1308
  let c32_416 : Index := 32#32
  ![5, v1310.toNat, 32]
def k1_off163 (k1_t3 : Fin k1_t3_loop.trips) (c0_i32_480 : BitVec 32) : Fin 3 → Nat :=
  let c6_i32_481 : BitVec 32 := 6#32
  let v1545 : Index := Scalar.indexCast c6_i32_481
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1544 : BitVec 32 := Scalar.addi v27 c0_i32_480
  let v1546 : Index := Scalar.indexCast v1544
  let c0_482 : Index := 0#32
  ![6, v1546.toNat, 0]
def k1_off164 (k1_t3 : Fin k1_t3_loop.trips) (c0_i32_483 : BitVec 32) : Fin 3 → Nat :=
  let c6_i32_484 : BitVec 32 := 6#32
  let v1550 : Index := Scalar.indexCast c6_i32_484
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1549 : BitVec 32 := Scalar.addi v27 c0_i32_483
  let v1551 : Index := Scalar.indexCast v1549
  let c16_485 : Index := 16#32
  ![6, v1551.toNat, 16]
def k1_off165 (k1_t3 : Fin k1_t3_loop.trips) (c0_i32_486 : BitVec 32) : Fin 3 → Nat :=
  let c6_i32_487 : BitVec 32 := 6#32
  let v1555 : Index := Scalar.indexCast c6_i32_487
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1554 : BitVec 32 := Scalar.addi v27 c0_i32_486
  let v1556 : Index := Scalar.indexCast v1554
  let c32_488 : Index := 32#32
  ![6, v1556.toNat, 32]
def k1_off166 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v1791 : Index := Scalar.indexCast v26
  let c0_552 : Index := 0#32
  ![v1791.toNat, 0]
def k1_off167 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_553 : BitVec 32 := 1#32
  let v1796 : BitVec 32 := Scalar.addi v26 c1_i32_553
  let v1797 : Index := Scalar.indexCast v1796
  let c0_554 : Index := 0#32
  ![v1797.toNat, 0]
def k1_off168 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v1802 : Index := Scalar.indexCast v26
  let c16_555 : Index := 16#32
  ![v1802.toNat, 16]
def k1_off169 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_556 : BitVec 32 := 1#32
  let v1807 : BitVec 32 := Scalar.addi v26 c1_i32_556
  let v1808 : Index := Scalar.indexCast v1807
  let c16_557 : Index := 16#32
  ![v1808.toNat, 16]
def k1_off170 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v1813 : Index := Scalar.indexCast v26
  let c32_558 : Index := 32#32
  ![v1813.toNat, 32]
def k1_off171 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_559 : BitVec 32 := 1#32
  let v1818 : BitVec 32 := Scalar.addi v26 c1_i32_559
  let v1819 : Index := Scalar.indexCast v1818
  let c32_560 : Index := 32#32
  ![v1819.toNat, 32]
def k1_off172 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v1826 : Index := Scalar.indexCast v26
  let c64 : Index := 64#32
  ![v1826.toNat, 64]
def k1_off173 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v1829 : Index := Scalar.indexCast v26
  let c80 : Index := 80#32
  ![v1829.toNat, 80]
def k1_off174 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v1832 : Index := Scalar.indexCast v26
  let c96 : Index := 96#32
  ![v1832.toNat, 96]
def k1_off175 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_564 : BitVec 32 := 1#32
  let v1839 : BitVec 32 := Scalar.addi v26 c1_i32_564
  let v1840 : Index := Scalar.indexCast v1839
  let c64_565 : Index := 64#32
  ![v1840.toNat, 64]
def k1_off176 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_566 : BitVec 32 := 1#32
  let v1843 : BitVec 32 := Scalar.addi v26 c1_i32_566
  let v1844 : Index := Scalar.indexCast v1843
  let c80_567 : Index := 80#32
  ![v1844.toNat, 80]
def k1_off177 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_568 : BitVec 32 := 1#32
  let v1847 : BitVec 32 := Scalar.addi v26 c1_i32_568
  let v1848 : Index := Scalar.indexCast v1847
  let c96_569 : Index := 96#32
  ![v1848.toNat, 96]
def k1_off178 (k1_t3 : Fin k1_t3_loop.trips) (c0_i32_582 : BitVec 32) : Fin 3 → Nat :=
  let c0_i32_583 : BitVec 32 := 0#32
  let v1864 : Index := Scalar.indexCast c0_i32_583
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1863 : BitVec 32 := Scalar.addi v27 c0_i32_582
  let v1865 : Index := Scalar.indexCast v1863
  let c48_584 : Index := 48#32
  ![0, v1865.toNat, 48]
def k1_off179 (k1_t3 : Fin k1_t3_loop.trips) (c0_i32_585 : BitVec 32) : Fin 3 → Nat :=
  let c0_i32_586 : BitVec 32 := 0#32
  let v1869 : Index := Scalar.indexCast c0_i32_586
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1868 : BitVec 32 := Scalar.addi v27 c0_i32_585
  let v1870 : Index := Scalar.indexCast v1868
  let c64_587 : Index := 64#32
  ![0, v1870.toNat, 64]
def k1_off180 (k1_t3 : Fin k1_t3_loop.trips) (c0_i32_588 : BitVec 32) : Fin 3 → Nat :=
  let c0_i32_589 : BitVec 32 := 0#32
  let v1874 : Index := Scalar.indexCast c0_i32_589
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v1873 : BitVec 32 := Scalar.addi v27 c0_i32_588
  let v1875 : Index := Scalar.indexCast v1873
  let c80_590 : Index := 80#32
  ![0, v1875.toNat, 80]
def k1_off181 (k1_t3 : Fin k1_t3_loop.trips) (c0_i32_654 : BitVec 32) : Fin 3 → Nat :=
  let c1_i32_655 : BitVec 32 := 1#32
  let v2110 : Index := Scalar.indexCast c1_i32_655
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2109 : BitVec 32 := Scalar.addi v27 c0_i32_654
  let v2111 : Index := Scalar.indexCast v2109
  let c48_656 : Index := 48#32
  ![1, v2111.toNat, 48]
def k1_off182 (k1_t3 : Fin k1_t3_loop.trips) (c0_i32_657 : BitVec 32) : Fin 3 → Nat :=
  let c1_i32_658 : BitVec 32 := 1#32
  let v2115 : Index := Scalar.indexCast c1_i32_658
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2114 : BitVec 32 := Scalar.addi v27 c0_i32_657
  let v2116 : Index := Scalar.indexCast v2114
  let c64_659 : Index := 64#32
  ![1, v2116.toNat, 64]
def k1_off183 (k1_t3 : Fin k1_t3_loop.trips) (c0_i32_660 : BitVec 32) : Fin 3 → Nat :=
  let c1_i32_661 : BitVec 32 := 1#32
  let v2120 : Index := Scalar.indexCast c1_i32_661
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2119 : BitVec 32 := Scalar.addi v27 c0_i32_660
  let v2121 : Index := Scalar.indexCast v2119
  let c80_662 : Index := 80#32
  ![1, v2121.toNat, 80]
def k1_off184 (k1_t3 : Fin k1_t3_loop.trips) (c0_i32_726 : BitVec 32) : Fin 3 → Nat :=
  let c2_i32_727 : BitVec 32 := 2#32
  let v2356 : Index := Scalar.indexCast c2_i32_727
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2355 : BitVec 32 := Scalar.addi v27 c0_i32_726
  let v2357 : Index := Scalar.indexCast v2355
  let c48_728 : Index := 48#32
  ![2, v2357.toNat, 48]
def k1_off185 (k1_t3 : Fin k1_t3_loop.trips) (c0_i32_729 : BitVec 32) : Fin 3 → Nat :=
  let c2_i32_730 : BitVec 32 := 2#32
  let v2361 : Index := Scalar.indexCast c2_i32_730
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2360 : BitVec 32 := Scalar.addi v27 c0_i32_729
  let v2362 : Index := Scalar.indexCast v2360
  let c64_731 : Index := 64#32
  ![2, v2362.toNat, 64]
def k1_off186 (k1_t3 : Fin k1_t3_loop.trips) (c0_i32_732 : BitVec 32) : Fin 3 → Nat :=
  let c2_i32_733 : BitVec 32 := 2#32
  let v2366 : Index := Scalar.indexCast c2_i32_733
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2365 : BitVec 32 := Scalar.addi v27 c0_i32_732
  let v2367 : Index := Scalar.indexCast v2365
  let c80_734 : Index := 80#32
  ![2, v2367.toNat, 80]
def k1_off187 (k1_t3 : Fin k1_t3_loop.trips) (c0_i32_798 : BitVec 32) : Fin 3 → Nat :=
  let c3_i32_799 : BitVec 32 := 3#32
  let v2602 : Index := Scalar.indexCast c3_i32_799
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2601 : BitVec 32 := Scalar.addi v27 c0_i32_798
  let v2603 : Index := Scalar.indexCast v2601
  let c48_800 : Index := 48#32
  ![3, v2603.toNat, 48]
def k1_off188 (k1_t3 : Fin k1_t3_loop.trips) (c0_i32_801 : BitVec 32) : Fin 3 → Nat :=
  let c3_i32_802 : BitVec 32 := 3#32
  let v2607 : Index := Scalar.indexCast c3_i32_802
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2606 : BitVec 32 := Scalar.addi v27 c0_i32_801
  let v2608 : Index := Scalar.indexCast v2606
  let c64_803 : Index := 64#32
  ![3, v2608.toNat, 64]
def k1_off189 (k1_t3 : Fin k1_t3_loop.trips) (c0_i32_804 : BitVec 32) : Fin 3 → Nat :=
  let c3_i32_805 : BitVec 32 := 3#32
  let v2612 : Index := Scalar.indexCast c3_i32_805
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2611 : BitVec 32 := Scalar.addi v27 c0_i32_804
  let v2613 : Index := Scalar.indexCast v2611
  let c80_806 : Index := 80#32
  ![3, v2613.toNat, 80]
def k1_off190 (k1_t3 : Fin k1_t3_loop.trips) (c0_i32_870 : BitVec 32) : Fin 3 → Nat :=
  let c4_i32_871 : BitVec 32 := 4#32
  let v2848 : Index := Scalar.indexCast c4_i32_871
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2847 : BitVec 32 := Scalar.addi v27 c0_i32_870
  let v2849 : Index := Scalar.indexCast v2847
  let c48_872 : Index := 48#32
  ![4, v2849.toNat, 48]
def k1_off191 (k1_t3 : Fin k1_t3_loop.trips) (c0_i32_873 : BitVec 32) : Fin 3 → Nat :=
  let c4_i32_874 : BitVec 32 := 4#32
  let v2853 : Index := Scalar.indexCast c4_i32_874
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2852 : BitVec 32 := Scalar.addi v27 c0_i32_873
  let v2854 : Index := Scalar.indexCast v2852
  let c64_875 : Index := 64#32
  ![4, v2854.toNat, 64]
def k1_off192 (k1_t3 : Fin k1_t3_loop.trips) (c0_i32_876 : BitVec 32) : Fin 3 → Nat :=
  let c4_i32_877 : BitVec 32 := 4#32
  let v2858 : Index := Scalar.indexCast c4_i32_877
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v2857 : BitVec 32 := Scalar.addi v27 c0_i32_876
  let v2859 : Index := Scalar.indexCast v2857
  let c80_878 : Index := 80#32
  ![4, v2859.toNat, 80]
def k1_off193 (k1_t3 : Fin k1_t3_loop.trips) (c0_i32_942 : BitVec 32) : Fin 3 → Nat :=
  let c5_i32_943 : BitVec 32 := 5#32
  let v3094 : Index := Scalar.indexCast c5_i32_943
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3093 : BitVec 32 := Scalar.addi v27 c0_i32_942
  let v3095 : Index := Scalar.indexCast v3093
  let c48_944 : Index := 48#32
  ![5, v3095.toNat, 48]
def k1_off194 (k1_t3 : Fin k1_t3_loop.trips) (c0_i32_945 : BitVec 32) : Fin 3 → Nat :=
  let c5_i32_946 : BitVec 32 := 5#32
  let v3099 : Index := Scalar.indexCast c5_i32_946
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3098 : BitVec 32 := Scalar.addi v27 c0_i32_945
  let v3100 : Index := Scalar.indexCast v3098
  let c64_947 : Index := 64#32
  ![5, v3100.toNat, 64]
def k1_off195 (k1_t3 : Fin k1_t3_loop.trips) (c0_i32_948 : BitVec 32) : Fin 3 → Nat :=
  let c5_i32_949 : BitVec 32 := 5#32
  let v3104 : Index := Scalar.indexCast c5_i32_949
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3103 : BitVec 32 := Scalar.addi v27 c0_i32_948
  let v3105 : Index := Scalar.indexCast v3103
  let c80_950 : Index := 80#32
  ![5, v3105.toNat, 80]
def k1_off196 (k1_t3 : Fin k1_t3_loop.trips) (c0_i32_1014 : BitVec 32) : Fin 3 → Nat :=
  let c6_i32_1015 : BitVec 32 := 6#32
  let v3340 : Index := Scalar.indexCast c6_i32_1015
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3339 : BitVec 32 := Scalar.addi v27 c0_i32_1014
  let v3341 : Index := Scalar.indexCast v3339
  let c48_1016 : Index := 48#32
  ![6, v3341.toNat, 48]
def k1_off197 (k1_t3 : Fin k1_t3_loop.trips) (c0_i32_1017 : BitVec 32) : Fin 3 → Nat :=
  let c6_i32_1018 : BitVec 32 := 6#32
  let v3345 : Index := Scalar.indexCast c6_i32_1018
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3344 : BitVec 32 := Scalar.addi v27 c0_i32_1017
  let v3346 : Index := Scalar.indexCast v3344
  let c64_1019 : Index := 64#32
  ![6, v3346.toNat, 64]
def k1_off198 (k1_t3 : Fin k1_t3_loop.trips) (c0_i32_1020 : BitVec 32) : Fin 3 → Nat :=
  let c6_i32_1021 : BitVec 32 := 6#32
  let v3350 : Index := Scalar.indexCast c6_i32_1021
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3349 : BitVec 32 := Scalar.addi v27 c0_i32_1020
  let v3351 : Index := Scalar.indexCast v3349
  let c80_1022 : Index := 80#32
  ![6, v3351.toNat, 80]
def k1_off199 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v3586 : Index := Scalar.indexCast v26
  let c48_1086 : Index := 48#32
  ![v3586.toNat, 48]
def k1_off200 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1087 : BitVec 32 := 1#32
  let v3591 : BitVec 32 := Scalar.addi v26 c1_i32_1087
  let v3592 : Index := Scalar.indexCast v3591
  let c48_1088 : Index := 48#32
  ![v3592.toNat, 48]
def k1_off201 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v3597 : Index := Scalar.indexCast v26
  let c64_1089 : Index := 64#32
  ![v3597.toNat, 64]
def k1_off202 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1090 : BitVec 32 := 1#32
  let v3602 : BitVec 32 := Scalar.addi v26 c1_i32_1090
  let v3603 : Index := Scalar.indexCast v3602
  let c64_1091 : Index := 64#32
  ![v3603.toNat, 64]
def k1_off203 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v3608 : Index := Scalar.indexCast v26
  let c80_1092 : Index := 80#32
  ![v3608.toNat, 80]
def k1_off204 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1093 : BitVec 32 := 1#32
  let v3613 : BitVec 32 := Scalar.addi v26 c1_i32_1093
  let v3614 : Index := Scalar.indexCast v3613
  let c80_1094 : Index := 80#32
  ![v3614.toNat, 80]
def k1_off205 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v3621 : Index := Scalar.indexCast v26
  let c112 : Index := 112#32
  ![v3621.toNat, 112]
def k1_off206 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v3624 : Index := Scalar.indexCast v26
  let c128 : Index := 128#32
  ![v3624.toNat, 128]
def k1_off207 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v3627 : Index := Scalar.indexCast v26
  let c144 : Index := 144#32
  ![v3627.toNat, 144]
def k1_off208 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1098 : BitVec 32 := 1#32
  let v3634 : BitVec 32 := Scalar.addi v26 c1_i32_1098
  let v3635 : Index := Scalar.indexCast v3634
  let c112_1099 : Index := 112#32
  ![v3635.toNat, 112]
def k1_off209 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1100 : BitVec 32 := 1#32
  let v3638 : BitVec 32 := Scalar.addi v26 c1_i32_1100
  let v3639 : Index := Scalar.indexCast v3638
  let c128_1101 : Index := 128#32
  ![v3639.toNat, 128]
def k1_off210 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1102 : BitVec 32 := 1#32
  let v3642 : BitVec 32 := Scalar.addi v26 c1_i32_1102
  let v3643 : Index := Scalar.indexCast v3642
  let c144_1103 : Index := 144#32
  ![v3643.toNat, 144]
def k1_off211 (k1_t3 : Fin k1_t3_loop.trips) (c0_i32_1116 : BitVec 32) : Fin 3 → Nat :=
  let c0_i32_1117 : BitVec 32 := 0#32
  let v3659 : Index := Scalar.indexCast c0_i32_1117
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3658 : BitVec 32 := Scalar.addi v27 c0_i32_1116
  let v3660 : Index := Scalar.indexCast v3658
  let c96_1118 : Index := 96#32
  ![0, v3660.toNat, 96]
def k1_off212 (k1_t3 : Fin k1_t3_loop.trips) (c0_i32_1119 : BitVec 32) : Fin 3 → Nat :=
  let c0_i32_1120 : BitVec 32 := 0#32
  let v3664 : Index := Scalar.indexCast c0_i32_1120
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3663 : BitVec 32 := Scalar.addi v27 c0_i32_1119
  let v3665 : Index := Scalar.indexCast v3663
  let c112_1121 : Index := 112#32
  ![0, v3665.toNat, 112]
def k1_off213 (k1_t3 : Fin k1_t3_loop.trips) (c0_i32_1122 : BitVec 32) : Fin 3 → Nat :=
  let c0_i32_1123 : BitVec 32 := 0#32
  let v3669 : Index := Scalar.indexCast c0_i32_1123
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3668 : BitVec 32 := Scalar.addi v27 c0_i32_1122
  let v3670 : Index := Scalar.indexCast v3668
  let c128_1124 : Index := 128#32
  ![0, v3670.toNat, 128]
def k1_off214 (k1_t3 : Fin k1_t3_loop.trips) (c0_i32_1188 : BitVec 32) : Fin 3 → Nat :=
  let c1_i32_1189 : BitVec 32 := 1#32
  let v3905 : Index := Scalar.indexCast c1_i32_1189
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3904 : BitVec 32 := Scalar.addi v27 c0_i32_1188
  let v3906 : Index := Scalar.indexCast v3904
  let c96_1190 : Index := 96#32
  ![1, v3906.toNat, 96]
def k1_off215 (k1_t3 : Fin k1_t3_loop.trips) (c0_i32_1191 : BitVec 32) : Fin 3 → Nat :=
  let c1_i32_1192 : BitVec 32 := 1#32
  let v3910 : Index := Scalar.indexCast c1_i32_1192
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3909 : BitVec 32 := Scalar.addi v27 c0_i32_1191
  let v3911 : Index := Scalar.indexCast v3909
  let c112_1193 : Index := 112#32
  ![1, v3911.toNat, 112]
def k1_off216 (k1_t3 : Fin k1_t3_loop.trips) (c0_i32_1194 : BitVec 32) : Fin 3 → Nat :=
  let c1_i32_1195 : BitVec 32 := 1#32
  let v3915 : Index := Scalar.indexCast c1_i32_1195
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v3914 : BitVec 32 := Scalar.addi v27 c0_i32_1194
  let v3916 : Index := Scalar.indexCast v3914
  let c128_1196 : Index := 128#32
  ![1, v3916.toNat, 128]
def k1_off217 (k1_t3 : Fin k1_t3_loop.trips) (c0_i32_1260 : BitVec 32) : Fin 3 → Nat :=
  let c2_i32_1261 : BitVec 32 := 2#32
  let v4151 : Index := Scalar.indexCast c2_i32_1261
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4150 : BitVec 32 := Scalar.addi v27 c0_i32_1260
  let v4152 : Index := Scalar.indexCast v4150
  let c96_1262 : Index := 96#32
  ![2, v4152.toNat, 96]
def k1_off218 (k1_t3 : Fin k1_t3_loop.trips) (c0_i32_1263 : BitVec 32) : Fin 3 → Nat :=
  let c2_i32_1264 : BitVec 32 := 2#32
  let v4156 : Index := Scalar.indexCast c2_i32_1264
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4155 : BitVec 32 := Scalar.addi v27 c0_i32_1263
  let v4157 : Index := Scalar.indexCast v4155
  let c112_1265 : Index := 112#32
  ![2, v4157.toNat, 112]
def k1_off219 (k1_t3 : Fin k1_t3_loop.trips) (c0_i32_1266 : BitVec 32) : Fin 3 → Nat :=
  let c2_i32_1267 : BitVec 32 := 2#32
  let v4161 : Index := Scalar.indexCast c2_i32_1267
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4160 : BitVec 32 := Scalar.addi v27 c0_i32_1266
  let v4162 : Index := Scalar.indexCast v4160
  let c128_1268 : Index := 128#32
  ![2, v4162.toNat, 128]
def k1_off220 (k1_t3 : Fin k1_t3_loop.trips) (c0_i32_1332 : BitVec 32) : Fin 3 → Nat :=
  let c3_i32_1333 : BitVec 32 := 3#32
  let v4397 : Index := Scalar.indexCast c3_i32_1333
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4396 : BitVec 32 := Scalar.addi v27 c0_i32_1332
  let v4398 : Index := Scalar.indexCast v4396
  let c96_1334 : Index := 96#32
  ![3, v4398.toNat, 96]
def k1_off221 (k1_t3 : Fin k1_t3_loop.trips) (c0_i32_1335 : BitVec 32) : Fin 3 → Nat :=
  let c3_i32_1336 : BitVec 32 := 3#32
  let v4402 : Index := Scalar.indexCast c3_i32_1336
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4401 : BitVec 32 := Scalar.addi v27 c0_i32_1335
  let v4403 : Index := Scalar.indexCast v4401
  let c112_1337 : Index := 112#32
  ![3, v4403.toNat, 112]
def k1_off222 (k1_t3 : Fin k1_t3_loop.trips) (c0_i32_1338 : BitVec 32) : Fin 3 → Nat :=
  let c3_i32_1339 : BitVec 32 := 3#32
  let v4407 : Index := Scalar.indexCast c3_i32_1339
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4406 : BitVec 32 := Scalar.addi v27 c0_i32_1338
  let v4408 : Index := Scalar.indexCast v4406
  let c128_1340 : Index := 128#32
  ![3, v4408.toNat, 128]
def k1_off223 (k1_t3 : Fin k1_t3_loop.trips) (c0_i32_1404 : BitVec 32) : Fin 3 → Nat :=
  let c4_i32_1405 : BitVec 32 := 4#32
  let v4643 : Index := Scalar.indexCast c4_i32_1405
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4642 : BitVec 32 := Scalar.addi v27 c0_i32_1404
  let v4644 : Index := Scalar.indexCast v4642
  let c96_1406 : Index := 96#32
  ![4, v4644.toNat, 96]
def k1_off224 (k1_t3 : Fin k1_t3_loop.trips) (c0_i32_1407 : BitVec 32) : Fin 3 → Nat :=
  let c4_i32_1408 : BitVec 32 := 4#32
  let v4648 : Index := Scalar.indexCast c4_i32_1408
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4647 : BitVec 32 := Scalar.addi v27 c0_i32_1407
  let v4649 : Index := Scalar.indexCast v4647
  let c112_1409 : Index := 112#32
  ![4, v4649.toNat, 112]
def k1_off225 (k1_t3 : Fin k1_t3_loop.trips) (c0_i32_1410 : BitVec 32) : Fin 3 → Nat :=
  let c4_i32_1411 : BitVec 32 := 4#32
  let v4653 : Index := Scalar.indexCast c4_i32_1411
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4652 : BitVec 32 := Scalar.addi v27 c0_i32_1410
  let v4654 : Index := Scalar.indexCast v4652
  let c128_1412 : Index := 128#32
  ![4, v4654.toNat, 128]
def k1_off226 (k1_t3 : Fin k1_t3_loop.trips) (c0_i32_1476 : BitVec 32) : Fin 3 → Nat :=
  let c5_i32_1477 : BitVec 32 := 5#32
  let v4889 : Index := Scalar.indexCast c5_i32_1477
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4888 : BitVec 32 := Scalar.addi v27 c0_i32_1476
  let v4890 : Index := Scalar.indexCast v4888
  let c96_1478 : Index := 96#32
  ![5, v4890.toNat, 96]
def k1_off227 (k1_t3 : Fin k1_t3_loop.trips) (c0_i32_1479 : BitVec 32) : Fin 3 → Nat :=
  let c5_i32_1480 : BitVec 32 := 5#32
  let v4894 : Index := Scalar.indexCast c5_i32_1480
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4893 : BitVec 32 := Scalar.addi v27 c0_i32_1479
  let v4895 : Index := Scalar.indexCast v4893
  let c112_1481 : Index := 112#32
  ![5, v4895.toNat, 112]
def k1_off228 (k1_t3 : Fin k1_t3_loop.trips) (c0_i32_1482 : BitVec 32) : Fin 3 → Nat :=
  let c5_i32_1483 : BitVec 32 := 5#32
  let v4899 : Index := Scalar.indexCast c5_i32_1483
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v4898 : BitVec 32 := Scalar.addi v27 c0_i32_1482
  let v4900 : Index := Scalar.indexCast v4898
  let c128_1484 : Index := 128#32
  ![5, v4900.toNat, 128]
def k1_off229 (k1_t3 : Fin k1_t3_loop.trips) (c0_i32_1548 : BitVec 32) : Fin 3 → Nat :=
  let c6_i32_1549 : BitVec 32 := 6#32
  let v5135 : Index := Scalar.indexCast c6_i32_1549
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5134 : BitVec 32 := Scalar.addi v27 c0_i32_1548
  let v5136 : Index := Scalar.indexCast v5134
  let c96_1550 : Index := 96#32
  ![6, v5136.toNat, 96]
def k1_off230 (k1_t3 : Fin k1_t3_loop.trips) (c0_i32_1551 : BitVec 32) : Fin 3 → Nat :=
  let c6_i32_1552 : BitVec 32 := 6#32
  let v5140 : Index := Scalar.indexCast c6_i32_1552
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5139 : BitVec 32 := Scalar.addi v27 c0_i32_1551
  let v5141 : Index := Scalar.indexCast v5139
  let c112_1553 : Index := 112#32
  ![6, v5141.toNat, 112]
def k1_off231 (k1_t3 : Fin k1_t3_loop.trips) (c0_i32_1554 : BitVec 32) : Fin 3 → Nat :=
  let c6_i32_1555 : BitVec 32 := 6#32
  let v5145 : Index := Scalar.indexCast c6_i32_1555
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5144 : BitVec 32 := Scalar.addi v27 c0_i32_1554
  let v5146 : Index := Scalar.indexCast v5144
  let c128_1556 : Index := 128#32
  ![6, v5146.toNat, 128]
def k1_off232 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v5381 : Index := Scalar.indexCast v26
  let c96_1620 : Index := 96#32
  ![v5381.toNat, 96]
def k1_off233 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1621 : BitVec 32 := 1#32
  let v5386 : BitVec 32 := Scalar.addi v26 c1_i32_1621
  let v5387 : Index := Scalar.indexCast v5386
  let c96_1622 : Index := 96#32
  ![v5387.toNat, 96]
def k1_off234 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v5392 : Index := Scalar.indexCast v26
  let c112_1623 : Index := 112#32
  ![v5392.toNat, 112]
def k1_off235 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1624 : BitVec 32 := 1#32
  let v5397 : BitVec 32 := Scalar.addi v26 c1_i32_1624
  let v5398 : Index := Scalar.indexCast v5397
  let c112_1625 : Index := 112#32
  ![v5398.toNat, 112]
def k1_off236 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v5403 : Index := Scalar.indexCast v26
  let c128_1626 : Index := 128#32
  ![v5403.toNat, 128]
def k1_off237 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1627 : BitVec 32 := 1#32
  let v5408 : BitVec 32 := Scalar.addi v26 c1_i32_1627
  let v5409 : Index := Scalar.indexCast v5408
  let c128_1628 : Index := 128#32
  ![v5409.toNat, 128]
def k1_off238 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v5416 : Index := Scalar.indexCast v26
  let c160 : Index := 160#32
  ![v5416.toNat, 160]
def k1_off239 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v5419 : Index := Scalar.indexCast v26
  let c176 : Index := 176#32
  ![v5419.toNat, 176]
def k1_off240 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v5422 : Index := Scalar.indexCast v26
  let c192 : Index := 192#32
  ![v5422.toNat, 192]
def k1_off241 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1632 : BitVec 32 := 1#32
  let v5429 : BitVec 32 := Scalar.addi v26 c1_i32_1632
  let v5430 : Index := Scalar.indexCast v5429
  let c160_1633 : Index := 160#32
  ![v5430.toNat, 160]
def k1_off242 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1634 : BitVec 32 := 1#32
  let v5433 : BitVec 32 := Scalar.addi v26 c1_i32_1634
  let v5434 : Index := Scalar.indexCast v5433
  let c176_1635 : Index := 176#32
  ![v5434.toNat, 176]
def k1_off243 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_1636 : BitVec 32 := 1#32
  let v5437 : BitVec 32 := Scalar.addi v26 c1_i32_1636
  let v5438 : Index := Scalar.indexCast v5437
  let c192_1637 : Index := 192#32
  ![v5438.toNat, 192]
def k1_off244 (k1_t3 : Fin k1_t3_loop.trips) (c0_i32_1650 : BitVec 32) : Fin 3 → Nat :=
  let c0_i32_1651 : BitVec 32 := 0#32
  let v5454 : Index := Scalar.indexCast c0_i32_1651
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5453 : BitVec 32 := Scalar.addi v27 c0_i32_1650
  let v5455 : Index := Scalar.indexCast v5453
  let c144_1652 : Index := 144#32
  ![0, v5455.toNat, 144]
def k1_off245 (k1_t3 : Fin k1_t3_loop.trips) (c0_i32_1653 : BitVec 32) : Fin 3 → Nat :=
  let c0_i32_1654 : BitVec 32 := 0#32
  let v5459 : Index := Scalar.indexCast c0_i32_1654
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5458 : BitVec 32 := Scalar.addi v27 c0_i32_1653
  let v5460 : Index := Scalar.indexCast v5458
  let c160_1655 : Index := 160#32
  ![0, v5460.toNat, 160]
def k1_off246 (k1_t3 : Fin k1_t3_loop.trips) (c0_i32_1656 : BitVec 32) : Fin 3 → Nat :=
  let c0_i32_1657 : BitVec 32 := 0#32
  let v5464 : Index := Scalar.indexCast c0_i32_1657
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5463 : BitVec 32 := Scalar.addi v27 c0_i32_1656
  let v5465 : Index := Scalar.indexCast v5463
  let c176_1658 : Index := 176#32
  ![0, v5465.toNat, 176]
def k1_off247 (k1_t3 : Fin k1_t3_loop.trips) (c0_i32_1722 : BitVec 32) : Fin 3 → Nat :=
  let c1_i32_1723 : BitVec 32 := 1#32
  let v5700 : Index := Scalar.indexCast c1_i32_1723
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5699 : BitVec 32 := Scalar.addi v27 c0_i32_1722
  let v5701 : Index := Scalar.indexCast v5699
  let c144_1724 : Index := 144#32
  ![1, v5701.toNat, 144]
def k1_off248 (k1_t3 : Fin k1_t3_loop.trips) (c0_i32_1725 : BitVec 32) : Fin 3 → Nat :=
  let c1_i32_1726 : BitVec 32 := 1#32
  let v5705 : Index := Scalar.indexCast c1_i32_1726
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5704 : BitVec 32 := Scalar.addi v27 c0_i32_1725
  let v5706 : Index := Scalar.indexCast v5704
  let c160_1727 : Index := 160#32
  ![1, v5706.toNat, 160]
def k1_off249 (k1_t3 : Fin k1_t3_loop.trips) (c0_i32_1728 : BitVec 32) : Fin 3 → Nat :=
  let c1_i32_1729 : BitVec 32 := 1#32
  let v5710 : Index := Scalar.indexCast c1_i32_1729
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5709 : BitVec 32 := Scalar.addi v27 c0_i32_1728
  let v5711 : Index := Scalar.indexCast v5709
  let c176_1730 : Index := 176#32
  ![1, v5711.toNat, 176]
def k1_off250 (k1_t3 : Fin k1_t3_loop.trips) (c0_i32_1794 : BitVec 32) : Fin 3 → Nat :=
  let c2_i32_1795 : BitVec 32 := 2#32
  let v5946 : Index := Scalar.indexCast c2_i32_1795
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5945 : BitVec 32 := Scalar.addi v27 c0_i32_1794
  let v5947 : Index := Scalar.indexCast v5945
  let c144_1796 : Index := 144#32
  ![2, v5947.toNat, 144]
def k1_off251 (k1_t3 : Fin k1_t3_loop.trips) (c0_i32_1797 : BitVec 32) : Fin 3 → Nat :=
  let c2_i32_1798 : BitVec 32 := 2#32
  let v5951 : Index := Scalar.indexCast c2_i32_1798
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5950 : BitVec 32 := Scalar.addi v27 c0_i32_1797
  let v5952 : Index := Scalar.indexCast v5950
  let c160_1799 : Index := 160#32
  ![2, v5952.toNat, 160]
def k1_off252 (k1_t3 : Fin k1_t3_loop.trips) (c0_i32_1800 : BitVec 32) : Fin 3 → Nat :=
  let c2_i32_1801 : BitVec 32 := 2#32
  let v5956 : Index := Scalar.indexCast c2_i32_1801
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v5955 : BitVec 32 := Scalar.addi v27 c0_i32_1800
  let v5957 : Index := Scalar.indexCast v5955
  let c176_1802 : Index := 176#32
  ![2, v5957.toNat, 176]
def k1_off253 (k1_t3 : Fin k1_t3_loop.trips) (c0_i32_1866 : BitVec 32) : Fin 3 → Nat :=
  let c3_i32_1867 : BitVec 32 := 3#32
  let v6192 : Index := Scalar.indexCast c3_i32_1867
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6191 : BitVec 32 := Scalar.addi v27 c0_i32_1866
  let v6193 : Index := Scalar.indexCast v6191
  let c144_1868 : Index := 144#32
  ![3, v6193.toNat, 144]
def k1_off254 (k1_t3 : Fin k1_t3_loop.trips) (c0_i32_1869 : BitVec 32) : Fin 3 → Nat :=
  let c3_i32_1870 : BitVec 32 := 3#32
  let v6197 : Index := Scalar.indexCast c3_i32_1870
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6196 : BitVec 32 := Scalar.addi v27 c0_i32_1869
  let v6198 : Index := Scalar.indexCast v6196
  let c160_1871 : Index := 160#32
  ![3, v6198.toNat, 160]
def k1_off255 (k1_t3 : Fin k1_t3_loop.trips) (c0_i32_1872 : BitVec 32) : Fin 3 → Nat :=
  let c3_i32_1873 : BitVec 32 := 3#32
  let v6202 : Index := Scalar.indexCast c3_i32_1873
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6201 : BitVec 32 := Scalar.addi v27 c0_i32_1872
  let v6203 : Index := Scalar.indexCast v6201
  let c176_1874 : Index := 176#32
  ![3, v6203.toNat, 176]
def k1_off256 (k1_t3 : Fin k1_t3_loop.trips) (c0_i32_1938 : BitVec 32) : Fin 3 → Nat :=
  let c4_i32_1939 : BitVec 32 := 4#32
  let v6438 : Index := Scalar.indexCast c4_i32_1939
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6437 : BitVec 32 := Scalar.addi v27 c0_i32_1938
  let v6439 : Index := Scalar.indexCast v6437
  let c144_1940 : Index := 144#32
  ![4, v6439.toNat, 144]
def k1_off257 (k1_t3 : Fin k1_t3_loop.trips) (c0_i32_1941 : BitVec 32) : Fin 3 → Nat :=
  let c4_i32_1942 : BitVec 32 := 4#32
  let v6443 : Index := Scalar.indexCast c4_i32_1942
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6442 : BitVec 32 := Scalar.addi v27 c0_i32_1941
  let v6444 : Index := Scalar.indexCast v6442
  let c160_1943 : Index := 160#32
  ![4, v6444.toNat, 160]
def k1_off258 (k1_t3 : Fin k1_t3_loop.trips) (c0_i32_1944 : BitVec 32) : Fin 3 → Nat :=
  let c4_i32_1945 : BitVec 32 := 4#32
  let v6448 : Index := Scalar.indexCast c4_i32_1945
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6447 : BitVec 32 := Scalar.addi v27 c0_i32_1944
  let v6449 : Index := Scalar.indexCast v6447
  let c176_1946 : Index := 176#32
  ![4, v6449.toNat, 176]
def k1_off259 (k1_t3 : Fin k1_t3_loop.trips) (c0_i32_2010 : BitVec 32) : Fin 3 → Nat :=
  let c5_i32_2011 : BitVec 32 := 5#32
  let v6684 : Index := Scalar.indexCast c5_i32_2011
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6683 : BitVec 32 := Scalar.addi v27 c0_i32_2010
  let v6685 : Index := Scalar.indexCast v6683
  let c144_2012 : Index := 144#32
  ![5, v6685.toNat, 144]
def k1_off260 (k1_t3 : Fin k1_t3_loop.trips) (c0_i32_2013 : BitVec 32) : Fin 3 → Nat :=
  let c5_i32_2014 : BitVec 32 := 5#32
  let v6689 : Index := Scalar.indexCast c5_i32_2014
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6688 : BitVec 32 := Scalar.addi v27 c0_i32_2013
  let v6690 : Index := Scalar.indexCast v6688
  let c160_2015 : Index := 160#32
  ![5, v6690.toNat, 160]
def k1_off261 (k1_t3 : Fin k1_t3_loop.trips) (c0_i32_2016 : BitVec 32) : Fin 3 → Nat :=
  let c5_i32_2017 : BitVec 32 := 5#32
  let v6694 : Index := Scalar.indexCast c5_i32_2017
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6693 : BitVec 32 := Scalar.addi v27 c0_i32_2016
  let v6695 : Index := Scalar.indexCast v6693
  let c176_2018 : Index := 176#32
  ![5, v6695.toNat, 176]
def k1_off262 (k1_t3 : Fin k1_t3_loop.trips) (c0_i32_2082 : BitVec 32) : Fin 3 → Nat :=
  let c6_i32_2083 : BitVec 32 := 6#32
  let v6930 : Index := Scalar.indexCast c6_i32_2083
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6929 : BitVec 32 := Scalar.addi v27 c0_i32_2082
  let v6931 : Index := Scalar.indexCast v6929
  let c144_2084 : Index := 144#32
  ![6, v6931.toNat, 144]
def k1_off263 (k1_t3 : Fin k1_t3_loop.trips) (c0_i32_2085 : BitVec 32) : Fin 3 → Nat :=
  let c6_i32_2086 : BitVec 32 := 6#32
  let v6935 : Index := Scalar.indexCast c6_i32_2086
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6934 : BitVec 32 := Scalar.addi v27 c0_i32_2085
  let v6936 : Index := Scalar.indexCast v6934
  let c160_2087 : Index := 160#32
  ![6, v6936.toNat, 160]
def k1_off264 (k1_t3 : Fin k1_t3_loop.trips) (c0_i32_2088 : BitVec 32) : Fin 3 → Nat :=
  let c6_i32_2089 : BitVec 32 := 6#32
  let v6940 : Index := Scalar.indexCast c6_i32_2089
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c3_i32_31 : BitVec 32 := 3#32
  let v27 : BitVec 32 := Scalar.subi v26 c3_i32_31
  let v6939 : BitVec 32 := Scalar.addi v27 c0_i32_2088
  let v6941 : Index := Scalar.indexCast v6939
  let c176_2090 : Index := 176#32
  ![6, v6941.toNat, 176]
def k1_off265 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v7176 : Index := Scalar.indexCast v26
  let c144_2154 : Index := 144#32
  ![v7176.toNat, 144]
def k1_off266 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_2155 : BitVec 32 := 1#32
  let v7181 : BitVec 32 := Scalar.addi v26 c1_i32_2155
  let v7182 : Index := Scalar.indexCast v7181
  let c144_2156 : Index := 144#32
  ![v7182.toNat, 144]
def k1_off267 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v7187 : Index := Scalar.indexCast v26
  let c160_2157 : Index := 160#32
  ![v7187.toNat, 160]
def k1_off268 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_2158 : BitVec 32 := 1#32
  let v7192 : BitVec 32 := Scalar.addi v26 c1_i32_2158
  let v7193 : Index := Scalar.indexCast v7192
  let c160_2159 : Index := 160#32
  ![v7193.toNat, 160]
def k1_off269 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let v7198 : Index := Scalar.indexCast v26
  let c176_2160 : Index := 176#32
  ![v7198.toNat, 176]
def k1_off270 (k1_t3 : Fin k1_t3_loop.trips) : Fin 2 → Nat :=
  let c2_i32_30 : BitVec 32 := 2#32
  let c2_i32_26 : BitVec 32 := 2#32
  let c1_i32_27 : BitVec 32 := 1#32
  let arg11 : BitVec 32 := Scf.iv c2_i32_26 c1_i32_27 k1_t3
  let v26 : BitVec 32 := Scalar.muli c2_i32_30 arg11
  let c1_i32_2161 : BitVec 32 := 1#32
  let v7203 : BitVec 32 := Scalar.addi v26 c1_i32_2161
  let v7204 : Index := Scalar.indexCast v7203
  let c176_2162 : Index := 176#32
  ![v7204.toNat, 176]
def k1_off271 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg10 : BitVec 32 := Scf.iv c0_i32_0 c1_i32 k1_t1
  let c32_i32 : BitVec 32 := 32#32
  let v3 : BitVec 32 := Scalar.muli arg10 c32_i32
  let v4 : BitVec 32 := Scalar.addi v1 v3
  let c56_i32_29 : BitVec 32 := 56#32
  let v25 : BitVec 32 := Scalar.muli v4 c56_i32_29
  let c0_i32_30_r0 : BitVec 32 := 0#32
  ![v25.toNat, 0]
abbrev grid2 : Pipeline.Grid := .none

abbrev stage2_0 : Fin 1 → Memref sig .tc .vmem S3136x192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S192x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S3136x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x56x56x192 : Shape := ⟨4, ![1, 56, 56, 192]⟩
abbrev S1x4x56x56x49 : Shape := ⟨5, ![1, 4, 56, 56, 49]⟩
abbrev S1x56x56 : Shape := ⟨3, ![1, 56, 56]⟩
abbrev S192x192 : Shape := ⟨2, ![192, 192]⟩
abbrev S192 : Shape := ⟨1, ![192]⟩
abbrev S1x1x1x192 : Shape := ⟨4, ![1, 1, 1, 192]⟩
abbrev S1x56x56x4x48 : Shape := ⟨5, ![1, 56, 56, 4, 48]⟩
abbrev S1x4x56x56x48 : Shape := ⟨5, ![1, 4, 56, 56, 48]⟩
abbrev S56 : Shape := ⟨1, ![56]⟩
abbrev S_ : Shape := ⟨0, ![]⟩
abbrev S56x1 : Shape := ⟨2, ![56, 1]⟩
abbrev S7 : Shape := ⟨1, ![7]⟩
abbrev S1x7 : Shape := ⟨2, ![1, 7]⟩
abbrev S56x7 : Shape := ⟨2, ![56, 7]⟩
abbrev S56x7x1 : Shape := ⟨3, ![56, 7, 1]⟩
abbrev S1x4x56x7x56x48 : Shape := ⟨6, ![1, 4, 56, 7, 56, 48]⟩
abbrev S1x4x56x7x56x7x48 : Shape := ⟨7, ![1, 4, 56, 7, 56, 7, 48]⟩
abbrev S1x4x56x56x7x7x48 : Shape := ⟨7, ![1, 4, 56, 56, 7, 7, 48]⟩
abbrev S1x56x7x56 : Shape := ⟨4, ![1, 56, 7, 56]⟩
abbrev S1x56x7x56x7 : Shape := ⟨5, ![1, 56, 7, 56, 7]⟩
abbrev S1x56x56x7x7 : Shape := ⟨5, ![1, 56, 56, 7, 7]⟩
abbrev S1x4x56x56x7x7 : Shape := ⟨6, ![1, 4, 56, 56, 7, 7]⟩
abbrev S1x1x56x56x7x7 : Shape := ⟨6, ![1, 1, 56, 56, 7, 7]⟩

abbrev nBuf : Space → Nat
  | .hbm => 98
  | .vmem => 0
  | .smem => 0
  | _ => 0

abbrev bufTy : (tb : Table) → Fin (tcTables nBuf tb) → BufTy
  | .hbm, ⟨0, _⟩ => ⟨S1x56x56x192, .f32⟩
  | .hbm, ⟨1, _⟩ => ⟨S1x4x56x56x49, .f32⟩
  | .hbm, ⟨2, _⟩ => ⟨S1x56x56, .f32⟩
  | .hbm, ⟨3, _⟩ => ⟨S192x192, .f32⟩
  | .hbm, ⟨4, _⟩ => ⟨S192, .f32⟩
  | .hbm, ⟨5, _⟩ => ⟨S192x192, .f32⟩
  | .hbm, ⟨6, _⟩ => ⟨S192, .f32⟩
  | .hbm, ⟨7, _⟩ => ⟨S1x56x56x192, .f32⟩
  | .hbm, ⟨8, _⟩ => ⟨S1x1x1x192, .f32⟩
  | .hbm, ⟨9, _⟩ => ⟨S1x56x56x192, .f32⟩
  | .hbm, ⟨10, _⟩ => ⟨S1x56x56x192, .f32⟩
  | .hbm, ⟨11, _⟩ => ⟨S1x56x56x4x48, .f32⟩
  | .hbm, ⟨12, _⟩ => ⟨S1x4x56x56x48, .f32⟩
  | .hbm, ⟨13, _⟩ => ⟨S56, .i32⟩
  | .hbm, ⟨14, _⟩ => ⟨S_, .i32⟩
  | .hbm, ⟨15, _⟩ => ⟨S56, .i32⟩
  | .hbm, ⟨16, _⟩ => ⟨S56, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S56, .i32⟩
  | .hbm, ⟨21, _⟩ => ⟨S56, .i32⟩
  | .hbm, ⟨22, _⟩ => ⟨S_, .i32⟩
  | .hbm, ⟨23, _⟩ => ⟨S56, .i32⟩
  | .hbm, ⟨24, _⟩ => ⟨S56, .i32⟩
  | .hbm, ⟨25, _⟩ => ⟨S56x1, .i32⟩
  | .hbm, ⟨26, _⟩ => ⟨S7, .i32⟩
  | .hbm, ⟨27, _⟩ => ⟨S1x7, .i32⟩
  | .hbm, ⟨28, _⟩ => ⟨S56x7, .i32⟩
  | .hbm, ⟨29, _⟩ => ⟨S56x7, .i32⟩
  | .hbm, ⟨30, _⟩ => ⟨S56x7, .i32⟩
  | .hbm, ⟨31, _⟩ => ⟨S56, .i32⟩
  | .hbm, ⟨32, _⟩ => ⟨S_, .i32⟩
  | .hbm, ⟨33, _⟩ => ⟨S56, .i32⟩
  | .hbm, ⟨34, _⟩ => ⟨S56, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S56, .i32⟩
  | .hbm, ⟨39, _⟩ => ⟨S56, .i32⟩
  | .hbm, ⟨40, _⟩ => ⟨S_, .i32⟩
  | .hbm, ⟨41, _⟩ => ⟨S56, .i32⟩
  | .hbm, ⟨42, _⟩ => ⟨S56, .i32⟩
  | .hbm, ⟨43, _⟩ => ⟨S56x1, .i32⟩
  | .hbm, ⟨44, _⟩ => ⟨S7, .i32⟩
  | .hbm, ⟨45, _⟩ => ⟨S1x7, .i32⟩
  | .hbm, ⟨46, _⟩ => ⟨S56x7, .i32⟩
  | .hbm, ⟨47, _⟩ => ⟨S56x7, .i32⟩
  | .hbm, ⟨48, _⟩ => ⟨S56x7, .i32⟩
  | .hbm, ⟨49, _⟩ => ⟨S_, .i32⟩
  | .hbm, ⟨50, _⟩ => ⟨S56x7, .i32⟩
  | .hbm, ⟨51, _⟩ => ⟨S56x7, .i1⟩
  | .hbm, ⟨52, _⟩ => ⟨S_, .i32⟩
  | .hbm, ⟨53, _⟩ => ⟨S56x7, .i32⟩
  | .hbm, ⟨54, _⟩ => ⟨S56x7, .i32⟩
  | .hbm, ⟨55, _⟩ => ⟨S56x7, .i32⟩
  | .hbm, ⟨56, _⟩ => ⟨S56x7x1, .i32⟩
  | .hbm, ⟨57, _⟩ => ⟨S1x4x56x7x56x48, .f32⟩
  | .hbm, ⟨58, _⟩ => ⟨S_, .i32⟩
  | .hbm, ⟨59, _⟩ => ⟨S56x7, .i32⟩
  | .hbm, ⟨60, _⟩ => ⟨S56x7, .i1⟩
  | .hbm, ⟨61, _⟩ => ⟨S_, .i32⟩
  | .hbm, ⟨62, _⟩ => ⟨S56x7, .i32⟩
  | .hbm, ⟨63, _⟩ => ⟨S56x7, .i32⟩
  | .hbm, ⟨64, _⟩ => ⟨S56x7, .i32⟩
  | .hbm, ⟨65, _⟩ => ⟨S56x7x1, .i32⟩
  | .hbm, ⟨66, _⟩ => ⟨S1x4x56x7x56x7x48, .f32⟩
  | .hbm, ⟨67, _⟩ => ⟨S1x4x56x56x7x7x48, .f32⟩
  | .hbm, ⟨68, _⟩ => ⟨S_, .i32⟩
  | .hbm, ⟨69, _⟩ => ⟨S56x7, .i32⟩
  | .hbm, ⟨70, _⟩ => ⟨S56x7, .i1⟩
  | .hbm, ⟨71, _⟩ => ⟨S_, .i32⟩
  | .hbm, ⟨72, _⟩ => ⟨S56x7, .i32⟩
  | .hbm, ⟨73, _⟩ => ⟨S56x7, .i32⟩
  | .hbm, ⟨74, _⟩ => ⟨S56x7, .i32⟩
  | .hbm, ⟨75, _⟩ => ⟨S56x7x1, .i32⟩
  | .hbm, ⟨76, _⟩ => ⟨S1x56x7x56, .f32⟩
  | .hbm, ⟨77, _⟩ => ⟨S_, .i32⟩
  | .hbm, ⟨78, _⟩ => ⟨S56x7, .i32⟩
  | .hbm, ⟨79, _⟩ => ⟨S56x7, .i1⟩
  | .hbm, ⟨80, _⟩ => ⟨S_, .i32⟩
  | .hbm, ⟨81, _⟩ => ⟨S56x7, .i32⟩
  | .hbm, ⟨82, _⟩ => ⟨S56x7, .i32⟩
  | .hbm, ⟨83, _⟩ => ⟨S56x7, .i32⟩
  | .hbm, ⟨84, _⟩ => ⟨S56x7x1, .i32⟩
  | .hbm, ⟨85, _⟩ => ⟨S1x56x7x56x7, .f32⟩
  | .hbm, ⟨86, _⟩ => ⟨S1x56x56x7x7, .f32⟩
  | .hbm, ⟨87, _⟩ => ⟨S1x4x56x56x7x7, .f32⟩
  | .hbm, ⟨88, _⟩ => ⟨S1x1x56x56x7x7, .f32⟩
  | .hbm, ⟨89, _⟩ => ⟨S1x4x56x56x7x7, .f32⟩
  | .hbm, ⟨90, _⟩ => ⟨S1x4x56x56x7x7, .f32⟩
  | .hbm, ⟨91, _⟩ => ⟨S1x4x56x56x48, .f32⟩
  | .hbm, ⟨92, _⟩ => ⟨S1x56x56x4x48, .f32⟩
  | .hbm, ⟨93, _⟩ => ⟨S1x56x56x192, .f32⟩
  | .hbm, ⟨94, _⟩ => ⟨S1x56x56x192, .f32⟩
  | .hbm, ⟨95, _⟩ => ⟨S1x1x1x192, .f32⟩
  | .hbm, ⟨96, _⟩ => ⟨S1x56x56x192, .f32⟩
  | .hbm, ⟨97, _⟩ => ⟨S1x56x56x192, .f32⟩
  | _, _ => ⟨S1x56x56x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_11 : Ref sig .tc := ⟨.hbm, 77, rfl⟩
abbrev main_v48 : Ref sig .tc := ⟨.hbm, 78, rfl⟩
abbrev main_v49 : Ref sig .tc := ⟨.hbm, 79, rfl⟩
abbrev main_c_12 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== Proof.Setup.lean ====
/-
  The program as its launch is proved over: its labels, its bodies' table, the algebras of the handshakes, of the two
  TensorCore calls' staging cells and of the transfers' counters, and the buffers by name.
-/
module

public import proofs.«01_k».proof.Proof.Gen.KernelIdeal
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebras -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staging cells' rounds of the two TensorCore calls. -/
abbrev EP : Emb UP (MT nD τ sig (HIx 1) (Elt F) ℕ UU ℕ) := (Emb.inl : Emb UP (UP × Counters)).trans embR

instance EP_landsIn : (EP (F := F) : Emb UP 𝕄).LandsIn (upEmb : UEmb _ 𝕄) := by
  unfold EP embR; infer_instance

/-! ## A tile's coordinates and its memrefs -/

abbrev cV (L : grid1.Coords) : Fin τ.nSC := (L 0).castLE hcore1
abbrev jV (L : grid1.Coords) : Fin τ.nSub := (L 1).castLE hsub1

end Cert.KernelIdeal.Run
-- ==== Proof.Calls.lean ====
/-
  The two TensorCore calls: what each body leaves, and each call as one region of `@main`, entered with every buffer at
  given contents and left with the call's result in its place.
-/
module

public import proofs.«01_k».proof.Proof.Setup
public import Idealize.ShloMosaic.Lib.Pipeline.RegionsLoop

@[expose] public section

noncomputable section

namespace Cert.KernelIdeal.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The bodies -/

/-- What the first call stores: the projected values with their bias, each row times its weight. -/
def uval (x : Vec F S3136x192 .f32) (w : Vec F S192x192 .f32) (b : Vec F S1x192 .f32) (sp : Vec F S3136x1 .f32) : Vec F S3136x192 .f32 :=
  mulf
    (addf (matmul dot_S3136x192_S192x192_S3136x192_1_1_0_0_n_n none (shapeCast S3136x192 x shapeCasts_S3136x192_S3136x192 : FVec F S3136x192 .f32) w
        (constant S3136x192 .f32 0x00000000#32))
      (broadcastTo S3136x192 (shapeCast S1x192 b shapeCasts_S1x192_S1x192) broadcasts_S1x192_S3136x192))
    (broadcastTo S3136x192 (shapeCast S3136x1 sp shapeCasts_S3136x1_S3136x1) broadcasts_S3136x1_S3136x192)

/-- What the second call stores: the projected aggregate with its bias. -/
def pval (x : Vec F S3136x192 .f32) (w : Vec F S192x192 .f32) (b : Vec F S1x192 .f32) : Vec F S3136x192 .f32 :=
  addf (matmul dot_S3136x192_S192x192_S3136x192_1_1_0_0_n_n none (x : FVec F S3136x192 .f32) w (constant S3136x192 .f32 0x00000000#32))
    (broadcastTo S3136x192 (shapeCast S1x192 b shapeCasts_S1x192_S1x192) broadcasts_S1x192_S3136x192)

/-- A memref's buffer on core `c`, whole at `f`. -/
abbrev at_ (c : Dev nD) {sp : Space} {S : Shape} {e : EltTy} (M : Memref sig .tc sp S e) (f : Buf (Elt F) (M.view.loc (c : Thread nD τ))) : sProp 𝕄 :=
  M.view.loc (c : Thread nD τ) ↦{fullShare} f

theorem zero2 : (![0, 0] : Fin 2 → ℕ) = fun _ => 0 := by funext i; fin_cases i <;> rfl

theorem vproj_run (c : Dev nD) (x : Vec F S3136x192 .f32) (w : Vec F S192x192 .f32) (b : Vec F S1x192 .f32) (sp : Vec F S3136x1 .f32)
    (o : Vec F S3136x192 .f32) (E : Set ℕ) (Q : PUnit → sProp (MT nD τ sig (HIx 1) (Elt F) ℕ UU ℕ)) :
    iprop(at_ c (stage0_0 0) x ∗ at_ c (stage0_1 0) w ∗ at_ c (stage0_2 0) b ∗ at_ c (stage0_3 0) sp ∗ at_ c (stage0_4 0) o
        ∗ (iprop(at_ c (stage0_0 0) x ∗ at_ c (stage0_1 0) w ∗ at_ c (stage0_2 0) b ∗ at_ c (stage0_3 0) sp ∗ at_ c (stage0_4 0) (uval x w b sp)) -∗ Q ⟨⟩))
      ⊢ wp frame (wpE (defs₀ (F := F)) Variants.none c none) E
          (cc0__vproj_body (stage0_0 0) (hstage0_0 0) (stage0_1 0) (hstage0_1 0) (stage0_2 0) (hstage0_2 0) (stage0_3 0) (hstage0_3 0) (stage0_4 0) (hstage0_4 0)) Q := by
  unfold cc0__vproj_body
  iintro ⟨H0, H1, H2, H3, H4, Hk⟩
  sl_exec
  sl_step
  iapply Hk
  isplitl [H0]; · iexact H0
  isplitl [H1]; · iexact H1
  isplitl [H2]; · iexact H2
  isplitl [H3]; · iexact H3
  iapply (Entails.of_eq ?_) $$ H4
  refine congrArg (at_ c (stage0_4 0)) ?_
  rw [View.writes_cons, View.writes_nil]
  refine Eq.trans (b := (vproj_run.sl.v11 x w b sp : Vec F S3136x192 .f32)) (Memref.write_access_unit_zero_univ (Elt F) cc0_stg4_0 zero2 inb_S3136x192_S3136x192_0_0 o (vproj_run.sl.v11 x w b sp)) ?_
  unfold vproj_run.sl.v11 vproj_run.sl.v7 vproj_run.sl.v10
  unfold vproj_run.sl.v3 vproj_run.sl.v6 vproj_run.sl.v9 vproj_run.sl.v1 vproj_run.sl.v5 vproj_run.sl.cst
  rw [show View.readAt (Elt F) (stage0_0 0).view (Rect.unit ![0, 0] S3136x192.size inb_S3136x192_S3136x192_0_0).toLoadRect x = x from
      Memref.readAt_unit_zero (Elt F) cc0_stg0_0 zero2 _ x,
    show View.readAt (Elt F) (stage0_1 0).view (Rect.unit ![0, 0] S192x192.size inb_S192x192_S192x192_0_0).toLoadRect w = w from
      Memref.readAt_unit_zero (Elt F) cc0_stg1_0 zero2 _ w,
    show View.readAt (Elt F) (stage0_2 0).view (Rect.unit ![0, 0] S1x192.size inb_S1x192_S1x192_0_0).toLoadRect b = b from
      Memref.readAt_unit_zero (Elt F) cc0_stg2_0 zero2 _ b,
    show View.readAt (Elt F) (stage0_3 0).view (Rect.unit ![0, 0] S3136x1.size inb_S3136x1_S3136x1_0_0).toLoadRect sp = sp from
      Memref.readAt_unit_zero (Elt F) cc0_stg3_0 zero2 _ sp]
  rfl

theorem oproj_run (c : Dev nD) (x : Vec F S3136x192 .f32) (w : Vec F S192x192 .f32) (b : Vec F S1x192 .f32)
    (o : Vec F S3136x192 .f32) (E : Set ℕ) (Q : PUnit → sProp (MT nD τ sig (HIx 1) (Elt F) ℕ UU ℕ)) :
    iprop(at_ c (stage2_0 0) x ∗ at_ c (stage2_1 0) w ∗ at_ c (stage2_2 0) b ∗ at_ c (stage2_3 0) o
        ∗ (iprop(at_ c (stage2_0 0) x ∗ at_ c (stage2_1 0) w ∗ at_ c (stage2_2 0) b ∗ at_ c (stage2_3 0) (pval x w b)) -∗ Q ⟨⟩))
      ⊢ wp frame (wpE (defs₀ (F := F)) Variants.none c none) E
          (cc2__oproj_body (stage2_0 0) (hstage2_0 0) (stage2_1 0) (hstage2_1 0) (stage2_2 0) (hstage2_2 0) (stage2_3 0) (hstage2_3 0)) Q := by
  unfold cc2__oproj_body
  iintro ⟨H0, H1, H2, H3, Hk⟩
  sl_exec
  sl_step
  iapply Hk
  isplitl [H0]; · iexact H0
  isplitl [H1]; · iexact H1
  isplitl [H2]; · iexact H2
  iapply (Entails.of_eq ?_) $$ H3
  refine congrArg (at_ c (stage2_3 0)) ?_
  rw [View.writes_cons, View.writes_nil]
  refine Eq.trans (b := (oproj_run.sl.v6 x w b : Vec F S3136x192 .f32)) (Memref.write_access_unit_zero_univ (Elt F) cc2_stg3_0 zero2 inb_S3136x192_S3136x192_0_0 o (oproj_run.sl.v6 x w b)) ?_
  unfold oproj_run.sl.v6 oproj_run.sl.v2 oproj_run.sl.v5 oproj_run.sl.v4 oproj_run.sl.cst
  rw [show View.readAt (Elt F) (stage2_0 0).view (Rect.unit ![0, 0] S3136x192.size inb_S3136x192_S3136x192_0_0).toLoadRect x = x from
      Memref.readAt_unit_zero (Elt F) cc2_stg0_0 zero2 _ x,
    show View.readAt (Elt F) (stage2_1 0).view (Rect.unit ![0, 0] S192x192.size inb_S192x192_S192x192_0_0).toLoadRect w = w from
      Memref.readAt_unit_zero (Elt F) cc2_stg1_0 zero2 _ w,
    show View.readAt (Elt F) (stage2_2 0).view (Rect.unit ![0, 0] S1x192.size inb_S1x192_S1x192_0_0).toLoadRect b = b from
      Memref.readAt_unit_zero (Elt F) cc2_stg2_0 zero2 _ b]
  rfl

/-! ## The proof data -/

variable (V : (c : Dev nD) → (b : Ref sig .tc) → Buf (Elt F) ((c : Thread nD τ).loc b))
  (O : Dev nD → CellTallies nD τ sig (HIx 1)) (n : ℕ)

/-- The first call's result from the contents `V`, -/
def uAt (c : Dev nD) : Vec F S3136x192 .f32 := uval (V c main_v0) (V c main_arg3) (V c main_v6) (V c main_v1)
/-- and the second's. -/
def pAt (c : Dev nD) : Vec F S3136x192 .f32 := pval (V c main_v9) (V c main_arg5) (V c main_v10)

/-- What the TensorCore's waits may have recorded: nothing above level `n`. -/
def low (c : Dev nD) : Set (SemLoc sig × HIx 1) := {p | (K (F := F)).lev ((c : Thread nD τ), p.1) p.2 ≤ n}

def dat0 (c : Dev nD) : Dat τ (Elt F) (HIx 1) ℕ UU ℕ cfg0 c where
  A w := V c (Pipeline.arrRef spec0 w)
  after w _ := match w with
    | ⟨0, _⟩ => V c main_v0
    | ⟨1, _⟩ => V c main_arg3
    | ⟨2, _⟩ => V c main_v6
    | ⟨3, _⟩ => V c main_v1
    | ⟨4, _⟩ => uAt V c
  Φ _ := Pipeline.scopedRest (Ix := HIx 1) (Name := ℕ) (U := UU) (Lvl := ℕ) (Val := Elt F) spec0 c
  q _ := fullShare
  owed _ := O c
  recorded _ := low (F := F) n c

def dat2 (c : Dev nD) : Dat τ (Elt F) (HIx 1) ℕ UU ℕ cfg2 c where
  A w := V c (Pipeline.arrRef spec2 w)
  after w _ := match w with
    | ⟨0, _⟩ => V c main_v9
    | ⟨1, _⟩ => V c main_arg5
    | ⟨2, _⟩ => V c main_v10
    | ⟨3, _⟩ => pAt V c
  Φ _ := Pipeline.scopedRest (Ix := HIx 1) (Name := ℕ) (U := UU) (Lvl := ℕ) (Val := Elt F) spec2 c
  q _ := fullShare
  owed _ := O c
  recorded _ := low (F := F) n c

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => dat0 V O n c
  | ⟨1, _⟩ => fun c => dat2 V O n c

/-! Every window's one block is its whole array. -/

theorem blk0_0 (c : Dev nD) (f : Buf (Elt F) ((c : Thread nD τ).loc main_v0)) : ((cfg0.win 0).blk t0_0).view.read (Elt F) f = f :=
  Memref.read_access_unit_zero (Elt F) main_v0 (show (fun a => (win0_0.index t0_0) a * (main_v0).ty.shape.size a) = fun _ => 0 from
    funext fun a => by fin_cases a <;> decide) (fun a => by fin_cases a <;> decide) f
theorem blk0_1 (c : Dev nD) (f : Buf (Elt F) ((c : Thread nD τ).loc main_arg3)) : ((cfg0.win 1).blk t0_0).view.read (Elt F) f = f :=
  Memref.read_access_unit_zero (Elt F) main_arg3 (show (fun a => (win0_1.index t0_0) a * (main_arg3).ty.shape.size a) = fun _ => 0 from
    funext fun a => by fin_cases a <;> decide) (fun a => by fin_cases a <;> decide) f
theorem blk0_2 (c : Dev nD) (f : Buf (Elt F) ((c : Thread nD τ).loc main_v6)) : ((cfg0.win 2).blk t0_0).view.read (Elt F) f = f :=
  Memref.read_access_unit_zero (Elt F) main_v6 (show (fun a => (win0_2.index t0_0) a * (main_v6).ty.shape.size a) = fun _ => 0 from
    funext fun a => by fin_cases a <;> decide) (fun a => by fin_cases a <;> decide) f
theorem blk0_3 (c : Dev nD) (f : Buf (Elt F) ((c : Thread nD τ).loc main_v1)) : ((cfg0.win 3).blk t0_0).view.read (Elt F) f = f :=
  Memref.read_access_unit_zero (Elt F) main_v1 (show (fun a => (win0_3.index t0_0) a * (main_v1).ty.shape.size a) = fun _ => 0 from
    funext fun a => by fin_cases a <;> decide) (fun a => by fin_cases a <;> decide) f
theorem blk0_4 (c : Dev nD) (f : Buf (Elt F) ((c : Thread nD τ).loc main_v7)) : ((cfg0.win 4).blk t0_0).view.read (Elt F) f = f :=
  Memref.read_access_unit_zero (Elt F) main_v7 (show (fun a => (win0_4.index t0_0) a * (main_v7).ty.shape.size a) = fun _ => 0 from
    funext fun a => by fin_cases a <;> decide) (fun a => by fin_cases a <;> decide) f
theorem blk2_0 (c : Dev nD) (f : Buf (Elt F) ((c : Thread nD τ).loc main_v9)) : ((cfg2.win 0).blk t2_0).view.read (Elt F) f = f :=
  Memref.read_access_unit_zero (Elt F) main_v9 (show (fun a => (win2_0.index t2_0) a * (main_v9).ty.shape.size a) = fun _ => 0 from
    funext fun a => by fin_cases a <;> decide) (fun a => by fin_cases a <;> decide) f
theorem blk2_1 (c : Dev nD) (f : Buf (Elt F) ((c : Thread nD τ).loc main_arg5)) : ((cfg2.win 1).blk t2_0).view.read (Elt F) f = f :=
  Memref.read_access_unit_zero (Elt F) main_arg5 (show (fun a => (win2_1.index t2_0) a * (main_arg5).ty.shape.size a) = fun _ => 0 from
    funext fun a => by fin_cases a <;> decide) (fun a => by fin_cases a <;> decide) f
theorem blk2_2 (c : Dev nD) (f : Buf (Elt F) ((c : Thread nD τ).loc main_v10)) : ((cfg2.win 2).blk t2_0).view.read (Elt F) f = f :=
  Memref.read_access_unit_zero (Elt F) main_v10 (show (fun a => (win2_2.index t2_0) a * (main_v10).ty.shape.size a) = fun _ => 0 from
    funext fun a => by fin_cases a <;> decide) (fun a => by fin_cases a <;> decide) f
theorem blk2_3 (c : Dev nD) (f : Buf (Elt F) ((c : Thread nD τ).loc main_v11)) : ((cfg2.win 3).blk t2_0).view.read (Elt F) f = f :=
  Memref.read_access_unit_zero (Elt F) main_v11 (show (fun a => (win2_3.index t2_0) a * (main_v11).ty.shape.size a) = fun _ => 0 from
    funext fun a => by fin_cases a <;> decide) (fun a => by fin_cases a <;> decide) f

theorem before0_0 (c : Dev nD) (d) : (dat0 V O n c).before 0 t0_0 d = V c main_v0 := by
  unfold Dat.before; rw [if_pos (fetch0_0 _)]; exact blk0_0 (F := F) c _
theorem before0_1 (c : Dev nD) (d) : (dat0 V O n c).before 1 t0_0 d = V c main_arg3 := by
  unfold Dat.before; rw [if_pos (fetch0_1 _)]; exact blk0_1 (F := F) c _
theorem before0_2 (c : Dev nD) (d) : (dat0 V O n c).before 2 t0_0 d = V c main_v6 := by
  unfold Dat.before; rw [if_pos (fetch0_2 _)]; exact blk0_2 (F := F) c _
theorem before0_3 (c : Dev nD) (d) : (dat0 V O n c).before 3 t0_0 d = V c main_v1 := by
  unfold Dat.before; rw [if_pos (fetch0_3 _)]; exact blk0_3 (F := F) c _
theorem before2_0 (c : Dev nD) (d) : (dat2 V O n c).before 0 t2_0 d = V c main_v9 := by
  unfold Dat.before; rw [if_pos (fetch2_0 _)]; exact blk2_0 (F := F) c _
theorem before2_1 (c : Dev nD) (d) : (dat2 V O n c).before 1 t2_0 d = V c main_arg5 := by
  unfold Dat.before; rw [if_pos (fetch2_1 _)]; exact blk2_1 (F := F) c _
theorem before2_2 (c : Dev nD) (d) : (dat2 V O n c).before 2 t2_0 d = V c main_v10 := by
  unfold Dat.before; rw [if_pos (fetch2_2 _)]; exact blk2_2 (F := F) c _

/-! ## The bodies' obligations -/

theorem body0 (c : Dev nD) : BodyObligation (dat0 V O n c) (defs₀ (F := F)) 𝒱₀ none Set.univ := fun t => by
  obtain rfl := fin_N0 t
  rw [bigSep_W0, bigSep_W0]
  simp only [owns_whole_eq]
  rw [show (dat0 V O n c).Φ t0_0.castSucc = (dat0 V O n c).Φ t0_0.succ from rfl,
    show (dat0 V O n c).owesAt none t0_0.succ = (dat0 V O n c).owesAt none t0_0.castSucc from rfl]
  iintro ⟨HΦ, Howes, ⟨%d0, %f0, %h0, H0⟩, ⟨%d1, %f1, %h1, H1⟩, ⟨%d2, %f2, %h2, H2⟩, ⟨%d3, %f3, %h3, H3⟩, ⟨%d4, %f4, -, H4⟩⟩
  rw [before0_0] at h0; subst h0
  rw [before0_1] at h1; subst h1
  rw [before0_2] at h2; subst h2
  rw [before0_3] at h3; subst h3
  iapply (vproj_run c (V c main_v0) (V c main_arg3) (V c main_v6) (V c main_v1) f4 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  iexists _; isplitr; swap; (· iexact H4); ipureintro; dsimp only [dat0]; rfl

theorem body2 (c : Dev nD) : BodyObligation (dat2 V O n c) (defs₀ (F := F)) 𝒱₀ none Set.univ := fun t => by
  obtain rfl := fin_N2 t
  rw [bigSep_W2, bigSep_W2]
  simp only [owns_whole_eq]
  rw [show (dat2 V O n c).Φ t2_0.castSucc = (dat2 V O n c).Φ t2_0.succ from rfl,
    show (dat2 V O n c).owesAt none t2_0.succ = (dat2 V O n c).owesAt none t2_0.castSucc from rfl]
  iintro ⟨HΦ, Howes, ⟨%d0, %f0, %h0, H0⟩, ⟨%d1, %f1, %h1, H1⟩, ⟨%d2, %f2, %h2, H2⟩, ⟨%d3, %f3, -, H3⟩⟩
  rw [before2_0] at h0; subst h0
  rw [before2_1] at h1; subst h1
  rw [before2_2] at h2; subst h2
  iapply (oproj_run c (V c main_v9) (V c main_arg5) (V c main_v10) f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat2]
  isplitl [H1]; · iexists _; isplitr; swap; (· iexact H1); ipureintro; dsimp only [dat2]
  isplitl [H2]; · iexists _; isplitr; swap; (· iexact H2); ipureintro; dsimp only [dat2]
  iexists _; isplitr; swap; (· iexact H3); ipureintro; dsimp only [dat2]; rfl

/-- The result's array after the region is the body's result. -/
theorem arr0 (c : Dev nD) : (dat0 V O n c).arrAt 4 cfg0.N = uAt V c := by
  have hw : ((cfg0.win 4).blk t0_0).view.read (Elt F) ((dat0 V O n c).arrAt 4 cfg0.N) = (dat0 V O n c).flushed 4 t0_0 := by
    rw [show cfg0.N = t0_0.val + 1 from rfl, (dat0 V O n c).arrAt_succ (4 : Fin 5) t0_0, flush0_4, if_pos rfl]
    exact View.read_write_univ _ _
  rw [show (dat0 V O n c).flushed 4 t0_0 = uAt V c from by
    show (cfg0.win 4).cut _ ((dat0 V O n c).after 4 t0_0) = _
    dsimp only [dat0]
    exact funext fun _ => rfl] at hw
  exact (blk0_4 (F := F) c _).symm.trans hw

/-- The result's array after the region is the body's result. -/
theorem arr2 (c : Dev nD) : (dat2 V O n c).arrAt 3 cfg2.N = pAt V c := by
  have hw : ((cfg2.win 3).blk t2_0).view.read (Elt F) ((dat2 V O n c).arrAt 3 cfg2.N) = (dat2 V O n c).flushed 3 t2_0 := by
    rw [show cfg2.N = t2_0.val + 1 from rfl, (dat2 V O n c).arrAt_succ (3 : Fin 4) t2_0, flush2_3, if_pos rfl]
    exact View.read_write_univ _ _
  rw [show (dat2 V O n c).flushed 3 t2_0 = pAt V c from by
    show (cfg2.win 3).cut _ ((dat2 V O n c).after 3 t2_0) = _
    dsimp only [dat2]
    exact funext fun _ => rfl] at hw
  exact (blk2_3 (F := F) c _).symm.trans hw

/-! ## The regions -/

/-- The state a region is entered from and left with: every unscoped buffer at the contents `V`, and what the core owes,
    its waits recorded no higher than `n`. -/
def around (c : Dev nD) : sProp (MT nD τ sig (HIx 1) (Elt F) ℕ UU ℕ) :=
  iprop(unscopedBufs c (V c) ∗ ∃ W, ⌜(K (F := F)).WBelow (T c) W n⌝ ∗ owes (c : Thread nD τ) (O c) W)

variable (Vp : (c : Dev nD) → (b : Ref sig .tc) → Buf (Elt F) ((c : Thread nD τ).loc b))

theorem bound_low {p : Fin 2} (c : Dev nD) (W : Waits sig (HIx 1)) (w : Set (SemLoc sig × HIx 1))
    (hw : ∀ x ∈ w, x.2 = none) (h : ↑W ⊆ low (F := F) n c ∪ w) : (K (F := F)).WBelow (T c) W n := fun x hx => by
  rcases h hx with h | h
  · exact h
  · rw [hw x h]; exact Nat.zero_le _

set_option backward.isDefEq.respectTransparency.types false in
def reg0 (hO : ∀ c g, O c g none = 0) (hout : ∀ c, Vp c main_v7 = uAt V c)
    (hne : ∀ c (b : Ref sig .tc), b ≠ main_v7 → Vp c b = V c b) :
    Pipeline.RegionSeg (pcfgs (F := F)) adm (pdats V O n) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body0 V O n c).loose
  hwaits c := Pipeline.cellsWaits_intro _ _ none 0 c fun w s t => (K (F := F)).mayWait_none _ (hO c)
  pre c := around V O n c
  post c := around Vp O n c
  X _ := BI.emp
  Y _ := BI.emp
  Z c := Pipeline.unscopedRest (Ix := HIx 1) (Name := ℕ) (U := UU) (Lvl := ℕ) spec0 c (V c)
  hentry c := by
    rw [Pipeline.ownSems0_none]
    have hs := Pipeline.arrays_of_unscopedBufs (p := 0) (pcfgs (F := F)) adm (pdats V O n) (launch0).win (launch0).arr_whole c
      ((pdats V O n 0 c).share_full fun _ => rfl) (V c) fun _ => rfl
    unfold around
    iintro ⟨⟨Hub, %W, %hW, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun x hx => Or.inl (hW x hx)
      iexact HO
    isplitr; · iempintro
    iexact Hrest
  hin c := by
    rw [show (pdats V O n 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V O n 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win
      (launch0).arr_whole c (pdats V O n) ((pdats V O n 0 c).share_full fun _ => rfl) (V c) (Vp c) ((pdats V O n 0 c).arrAt · cfg0.N)
      (fun w => by
        fin_cases w
        · exact ((pdats V O n 0 c).arrAt_in 0 rfl _).trans (hne c main_v0 (by decide)).symm
        · exact ((pdats V O n 0 c).arrAt_in 1 rfl _).trans (hne c main_arg3 (by decide)).symm
        · exact ((pdats V O n 0 c).arrAt_in 2 rfl _).trans (hne c main_v6 (by decide)).symm
        · exact ((pdats V O n 0 c).arrAt_in 3 rfl _).trans (hne c main_v1 (by decide)).symm
        · exact (arr0 V O n c).trans (hout c).symm)
      (fun b hb => hne c b fun h => hb (h ▸ Finset.mem_image.mpr ⟨4, Finset.mem_univ _, rfl⟩))
    unfold around
    iintro ⟨Ha, HO, -, Hrest⟩
    imodintro
    isplitl [Ha Hrest]
    · iapply hjoin; isplitl [Ha] <;> iassumption
    icases HO with ⟨%W, %hW, HO⟩; iexists W; isplitr
    · ipureintro
      exact bound_low (p := 0) n c W _ (fun x hx => by obtain ⟨w, s, rfl⟩ := hx; rfl) hW
    iexact HO

set_option backward.isDefEq.respectTransparency.types false in
def reg2 (hO : ∀ c g, O c g none = 0) (hout : ∀ c, Vp c main_v11 = pAt V c)
    (hne : ∀ c (b : Ref sig .tc), b ≠ main_v11 → Vp c b = V c b) :
    Pipeline.RegionSeg (pcfgs (F := F)) adm (pdats V O n) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body2 V O n c).loose
  hwaits c := Pipeline.cellsWaits_intro _ _ none 1 c fun w s t => (K (F := F)).mayWait_none _ (hO c)
  pre c := around V O n c
  post c := around Vp O n c
  X _ := BI.emp
  Y _ := BI.emp
  Z c := Pipeline.unscopedRest (Ix := HIx 1) (Name := ℕ) (U := UU) (Lvl := ℕ) spec2 c (V c)
  hentry c := by
    rw [Pipeline.ownSems0_none]
    have hs := Pipeline.arrays_of_unscopedBufs (p := 1) (pcfgs (F := F)) adm (pdats V O n) (launch2).win (launch2).arr_whole c
      ((pdats V O n 1 c).share_full fun _ => rfl) (V c) fun _ => rfl
    unfold around
    iintro ⟨⟨Hub, %W, %hW, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun x hx => Or.inl (hW x hx)
      iexact HO
    isplitr; · iempintro
    iexact Hrest
  hin c := by
    rw [show (pdats V O n 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V O n 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win
      (launch2).arr_whole c (pdats V O n) ((pdats V O n 1 c).share_full fun _ => rfl) (V c) (Vp c) ((pdats V O n 1 c).arrAt · cfg2.N)
      (fun w => by
        fin_cases w
        · exact ((pdats V O n 1 c).arrAt_in 0 rfl _).trans (hne c main_v9 (by decide)).symm
        · exact ((pdats V O n 1 c).arrAt_in 1 rfl _).trans (hne c main_arg5 (by decide)).symm
        · exact ((pdats V O n 1 c).arrAt_in 2 rfl _).trans (hne c main_v10 (by decide)).symm
        · exact (arr2 V O n c).trans (hout c).symm)
      (fun b hb => hne c b fun h => hb (h ▸ Finset.mem_image.mpr ⟨3, Finset.mem_univ _, rfl⟩))
    unfold around
    iintro ⟨Ha, HO, -, Hrest⟩
    imodintro
    isplitl [Ha Hrest]
    · iapply hjoin; isplitl [Ha] <;> iassumption
    icases HO with ⟨%W, %hW, HO⟩; iexists W; isplitr
    · ipureintro
      exact bound_low (p := 1) n c W _ (fun x hx => by obtain ⟨w, s, rfl⟩ := hx; rfl) hW
    iexact HO

end Cert.KernelIdeal.Run
-- ==== Proof.Trip.lean ====
/-
  One trip of the row's two loops, written once.

  The printed body of either loop over columns is some 9000 statements long: for each of the 4 heads it reads the
  attention weights of two neighbouring columns, reads the window of `u`, multiplies and adds, and stores three
  vectors of 16 for each of the two columns.  Here that trip is a short program over its reads and its stores.
-/
module

public import proofs.«01_k».proof.KernelIdeal

@[expose] public section

noncomputable section

namespace Cert.KernelIdeal.Trip

open Idealize.ShloMosaic Idealize.SL.Sem

variable {F : FTy → Type} [FloatOps F]

variable [Facts]
open Facts₀ Facts

/-! ## Reading a list of places -/

/-- Reads every place of a list, in order, and goes on with the list of what it read. -/
def collect {E : Type → Type} {α β γ : Type} (f : α → E β) : List α → (List β → Prog E γ) → Prog E γ
  | [], k => k []
  | a :: l, k => .op (f a) fun b => collect f l fun bs => k (b :: bs)

/-- Does one thing for every element of a list, in order, and goes on. -/
def each {E : Type → Type} {α γ : Type} (f : α → Prog E γ → Prog E γ) : List α → Prog E γ → Prog E γ
  | [], k => k
  | a :: l, k => f a (each f l k)

abbrev fins3 : List (Fin 3) := [⟨0, by decide⟩, ⟨1, by decide⟩, ⟨2, by decide⟩]
abbrev fins4 : List (Fin 4) := [⟨0, by decide⟩, ⟨1, by decide⟩, ⟨2, by decide⟩, ⟨3, by decide⟩]
abbrev fins7 : List (Fin 7) := [⟨0, by decide⟩, ⟨1, by decide⟩, ⟨2, by decide⟩, ⟨3, by decide⟩, ⟨4, by decide⟩, ⟨5, by decide⟩,
  ⟨6, by decide⟩]
abbrev fins8 : List (Fin 8) := [⟨0, by decide⟩, ⟨1, by decide⟩, ⟨2, by decide⟩, ⟨3, by decide⟩, ⟨4, by decide⟩, ⟨5, by decide⟩,
  ⟨6, by decide⟩, ⟨7, by decide⟩]

/-! ## The arithmetic of one head -/

theorem slices16 (o : ℕ) (h : o < 16) : S16.Slices ![o] S1 := by
  revert h; revert o; decide

/-- Word `t` of four vectors of 16 laid end to end, as a scalar. -/
def pick (a : List (Vec F S1x16 .f32)) (t : ℕ) : F .f32 :=
  extractAt ![0] (extractStridedSlice S1 ![t % 16] (shapeCast S16 (a.getD (t / 16) (fun _ => Scalar.ofBits .f32 0#32)) shapeCasts_S1x16_S16)
    (slices16 (t % 16) (Nat.mod_lt _ (by decide)))) inpos_S1_p0

/-- What was read at row `k`, column `c`, third `j` of the window (`m` columns wide), as a vector of 16. -/
def cell (m : ℕ) (u : List (Vec F S1x1x16 .f32)) (k c j : ℕ) : FVec F S16 .f32 :=
  shapeCast S16 (u.getD ((k * m + c) * 3 + j) (fun _ => Scalar.ofBits .f32 0#32)) shapeCasts_S1x1x16_S16

/-- The places of the window whose column has the parity `b`, in the order they are added. -/
def places (b : ℕ) : List (ℕ × ℕ) :=
  [0, 1, 2, 3, 4, 5, 6].flatMap fun k => (if b = 0 then [0, 2, 4, 6] else [1, 3, 5]).map fun l => (k, l)

/-- One accumulator: weight times value over the places of one parity. -/
def acc (a : List (Vec F S1x16 .f32)) (sh : ℕ) (m : ℕ) (u : List (Vec F S1x1x16 .f32)) (d j b : ℕ) : FVec F S16 .f32 :=
  (places b).foldl (fun s p => addf s (mulf (broadcast S16 (pick a (sh + p.1 * 7 + p.2))) (cell m u p.1 (p.2 + d) j)))
    (broadcast S16 (Scalar.ofBits .f32 0x00000000#32))

/-- What one head stores for one column: the two accumulators added. -/
def outv (a : List (Vec F S1x16 .f32)) (sh : ℕ) (m : ℕ) (u : List (Vec F S1x1x16 .f32)) (d j : ℕ) : FVec F S1x16 .f32 :=
  shapeCast S1x16 (addf (acc a sh m u d j 0) (acc a sh m u d j 1)) shapeCasts_S16_S1x16

/-! ## The trip -/

/-- A trip's reads and stores: the weights of column `r` of the two, 16 at a time; the window of `u` at a row, a column
    and 16 channels; the stored vectors of column `r`. -/
structure Ports (E : Type → Type) (F : FTy → Type) (m : ℕ) where
  ldA : Fin 2 → Fin 13 → E (Vec F S1x16 .f32)
  ldU : Fin 7 → Fin m → Fin 12 → E (Vec F S1x1x16 .f32)
  ldO : Fin 2 → Fin 12 → E (Vec F S1x16 .f32)
  stO : Fin 2 → Fin 12 → Vec F S1x16 .f32 → E PUnit

variable {E : Type → Type} {m : ℕ}

/-- Block `j` of head `n` among the 12 blocks of 16 channels. -/
def blk (n : Fin 4) (j : Fin 3) : Fin 12 := ⟨n.val * 3 + j.val, by omega⟩

/-- Vector `i` of the weights of head `n`: the 49 weights begin inside block `49 n / 16`. -/
def wblk (n i : Fin 4) : Fin 13 := ⟨n.val * 49 / 16 + i.val, by omega⟩

/-- The places of a window `m` columns wide, in the order they are read. -/
def window (cols : List (Fin m)) : List (Fin 7 × Fin m × Fin 3) :=
  fins7.flatMap fun k => cols.flatMap fun c => fins3.map fun j => (k, c, j)

/-- One head of one trip. -/
def head (P : Ports E F m) (cols : List (Fin m)) (d : ℕ) (n : Fin 4) (next : Prog E PUnit) : Prog E PUnit :=
  collect (fun i => P.ldA 0 (wblk n i)) fins4 fun a0 =>
  collect (fun i => P.ldA 1 (wblk n i)) fins4 fun a1 =>
  collect (fun p => P.ldU p.1 p.2.1 (blk n p.2.2)) (window cols) fun u =>
  each (fun j k =>
    .op (P.ldO 0 (blk n j)) fun _ => .op (P.stO 0 (blk n j) (outv a0 (n.val * 49 % 16) m u 0 j.val)) fun _ =>
    .op (P.ldO 1 (blk n j)) fun _ => .op (P.stO 1 (blk n j) (outv a1 (n.val * 49 % 16) m u d j.val)) fun _ => k) fins3 next

/-- One trip: the four heads. -/
def trip (P : Ports E F m) (cols : List (Fin m)) (d : ℕ) : Prog E PUnit := each (head P cols d) fins4 (.ret ⟨⟩)

/-! ## The reads and stores of the printed loops -/

/-- Row `w` or the row after it, as the body computes it. -/
def rowOf (w : BitVec 32) (r : Fin 2) : ℕ := if r = 0 then (Scalar.indexCast w : Index).toNat else (Scalar.indexCast (Scalar.addi w 1#32) : Index).toNat

/-- A block of 16 of a row of the weights or of the stored rows. -/
def offR (w : BitVec 32) (r : Fin 2) (p : ℕ) : Fin 2 → ℕ := ![rowOf w r, 16 * p]

/-- A block of 16 of the window of `u`. -/
def offU (cs : BitVec 32) (k c p : ℕ) : Fin 3 → ℕ := ![k, (Scalar.indexCast (Scalar.addi cs (BitVec.ofNat 32 c)) : Index).toNat, 16 * p]

/-- The first loop's left column: 0, 2, 52, 54. -/
def colA (t : Fin k1_t2_loop.trips) : BitVec 32 :=
  let arg11 : BitVec 32 := Scf.iv 0#32 1#32 t
  let v31 : BitVec 32 := Scalar.subi (Scalar.extui (Scalar.cmpi .sgt arg11 0#32)) (Scalar.extui (Scalar.cmpi .slt arg11 0#32))
  let v36 : BitVec 32 := Scalar.subi (Scalar.extui (Scalar.cmpi .sgt 2#32 0#32)) (Scalar.extui (Scalar.cmpi .slt 2#32 0#32))
  let v40 : BitVec 1 := Scalar.andi (Scalar.cmpi .ne v31 v36) (Scalar.cmpi .ne (Scalar.remsi arg11 2#32) 0#32)
  let v26 : BitVec 32 := Scalar.divsi arg11 2#32
  Scalar.muli 2#32 (Scalar.addi arg11 (Scalar.muli 24#32 (Scalar.select v40 (Scalar.subi v26 1#32) v26)))

/-- Its window's first column: the left column less 3, kept within 0 and 49. -/
def winA (t : Fin k1_t2_loop.trips) : BitVec 32 := Scalar.minsi 49#32 (Scalar.maxsi 0#32 (Scalar.subi (colA t) 3#32))

/-- The second loop's left column: 4, 6, …, 50. -/
def colB (t : Fin k1_t3_loop.trips) : BitVec 32 := Scalar.muli 2#32 (Scf.iv 2#32 1#32 t)

/-- Its window's first column: the left column less 3. -/
def winB (t : Fin k1_t3_loop.trips) : BitVec 32 := Scalar.subi (colB t) 3#32

/-! The same as numbers. -/

def cA (t : ℕ) : ℕ := 2 * (t + 24 * (t / 2))
def sA (t : ℕ) : ℕ := min 49 (cA t - 3)
def cB (t : ℕ) : ℕ := 2 * (t + 2)
def sB (t : ℕ) : ℕ := cB t - 3

theorem rowOf_A : ∀ (t : Fin k1_t2_loop.trips) (r : Fin 2), rowOf (colA t) r = cA t + r := by decide +kernel
theorem rowOf_B : ∀ (t : Fin k1_t3_loop.trips) (r : Fin 2), rowOf (colB t) r = cB t + r := by decide +kernel
theorem win_A : ∀ (t : Fin k1_t2_loop.trips) (c : Fin 7),
    (Scalar.indexCast (Scalar.addi (winA t) (BitVec.ofNat 32 c)) : Index).toNat = sA t + c := by decide +kernel
theorem win_B : ∀ (t : Fin k1_t3_loop.trips) (c : Fin 8),
    (Scalar.indexCast (Scalar.addi (winB t) (BitVec.ofNat 32 c)) : Index).toNat = sB t + c := by decide +kernel
theorem cA_lt : ∀ t : Fin k1_t2_loop.trips, cA t + 1 < 56 ∧ sA t + 6 < 56 := by decide +kernel
theorem cB_lt : ∀ t : Fin k1_t3_loop.trips, cB t + 1 < 56 ∧ sB t + 7 < 56 := by decide +kernel

theorem inbA_A (t : Fin k1_t2_loop.trips) (r : Fin 2) (p : Fin 13) : ∀ a, offR (colA t) r p a + S1x16.size a ≤ S56x208.size a := by
  intro a; have := cA_lt t
  fin_cases a
  · simp [offR, rowOf_A, S1x16, S56x208]; omega
  · simp [offR, S1x16, S56x208]; omega
theorem inbO_A (t : Fin k1_t2_loop.trips) (r : Fin 2) (p : Fin 12) : ∀ a, offR (colA t) r p a + S1x16.size a ≤ S56x192.size a := by
  intro a; have := cA_lt t
  fin_cases a
  · simp [offR, rowOf_A, S1x16, S56x192]; omega
  · simp [offR, S1x16, S56x192]; omega
theorem inbU_A (t : Fin k1_t2_loop.trips) (k c : Fin 7) (p : Fin 12) :
    ∀ a, offU (winA t) k c p a + S1x1x16.size a ≤ S7x56x192.size a := by
  intro a; have := cA_lt t; have := win_A t c
  fin_cases a
  · simp [offU, S1x1x16, S7x56x192]; omega
  · simp only [offU, S1x1x16, S7x56x192] at *; simp [this]; omega
  · simp [offU, S1x1x16, S7x56x192]; omega
theorem inbA_B (t : Fin k1_t3_loop.trips) (r : Fin 2) (p : Fin 13) : ∀ a, offR (colB t) r p a + S1x16.size a ≤ S56x208.size a := by
  intro a; have := cB_lt t
  fin_cases a
  · simp [offR, rowOf_B, S1x16, S56x208]; omega
  · simp [offR, S1x16, S56x208]; omega
theorem inbO_B (t : Fin k1_t3_loop.trips) (r : Fin 2) (p : Fin 12) : ∀ a, offR (colB t) r p a + S1x16.size a ≤ S56x192.size a := by
  intro a; have := cB_lt t
  fin_cases a
  · simp [offR, rowOf_B, S1x16, S56x192]; omega
  · simp [offR, S1x16, S56x192]; omega
theorem inbU_B (t : Fin k1_t3_loop.trips) (k : Fin 7) (c : Fin 8) (p : Fin 12) :
    ∀ a, offU (winB t) k c p a + S1x1x16.size a ≤ S7x56x192.size a := by
  intro a; have := cB_lt t; have := win_B t c
  fin_cases a
  · simp [offU, S1x1x16, S7x56x192]; omega
  · simp only [offU, S1x1x16, S7x56x192] at *; simp [this]; omega
  · simp [offU, S1x1x16, S7x56x192]; omega

section
variable (i : grid1.Coords) (u : Memref sig .scVector .vmem S7x56x192 .f32) (a : Memref sig .scVector .vmem S56x208 .f32)
  (o : Memref sig .scVector .vmem S56x192 .f32)

/-- The first loop's reads and stores. -/
def portsA (t : Fin k1_t2_loop.trips) : Ports (TpuEff nD τ sig (Elt F) Λ₀ (.scVector ((i 0).castLE hcore1) ((i 1).castLE hsub1))) F 7 where
  ldA r p := TpuEff.load a (Rect.unit (s := S56x208) (offR (colA t) r p) S1x16.size (inbA_A t r p)).toLoadRect (View.loadsAt_vmem h_S1x16)
  ldU k c p := TpuEff.load u (Rect.unit (s := S7x56x192) (offU (winA t) k c p) S1x1x16.size (inbU_A t k c p)).toLoadRect (View.loadsAt_vmem h_S1x1x16)
  ldO r p := TpuEff.load o (Rect.unit (s := S56x192) (offR (colA t) r p) S1x16.size (inbO_A t r p)).toLoadRect (View.loadsAt_vmem h_S1x16)
  stO r p v := TpuEff.store o (Rect.unit (s := S56x192) (offR (colA t) r p) S1x16.size (inbO_A t r p)) v Finset.univ
    (View.stores_vmem_bits_univ h_S1x16 rfl) (.inl rfl)

/-- The second loop's. -/
def portsB (t : Fin k1_t3_loop.trips) : Ports (TpuEff nD τ sig (Elt F) Λ₀ (.scVector ((i 0).castLE hcore1) ((i 1).castLE hsub1))) F 8 where
  ldA r p := TpuEff.load a (Rect.unit (s := S56x208) (offR (colB t) r p) S1x16.size (inbA_B t r p)).toLoadRect (View.loadsAt_vmem h_S1x16)
  ldU k c p := TpuEff.load u (Rect.unit (s := S7x56x192) (offU (winB t) k c p) S1x1x16.size (inbU_B t k c p)).toLoadRect (View.loadsAt_vmem h_S1x1x16)
  ldO r p := TpuEff.load o (Rect.unit (s := S56x192) (offR (colB t) r p) S1x16.size (inbO_B t r p)).toLoadRect (View.loadsAt_vmem h_S1x16)
  stO r p v := TpuEff.store o (Rect.unit (s := S56x192) (offR (colB t) r p) S1x16.size (inbO_B t r p)) v Finset.univ
    (View.stores_vmem_bits_univ h_S1x16 rfl) (.inl rfl)
end

end Cert.KernelIdeal.Trip
-- ==== Proof.Value.lean ====
/-
  What one head of one trip stores, as a number: for a row, a column and a channel, the weights of the column's head
  times the window's values of that channel, the even columns of the window and the odd columns summed apart and then
  added.
-/
module

public import proofs.«01_k».proof.Proof.Trip
public import Idealize.ShloMosaic.Lib.Pipeline.Value
public import Idealize.ShloMosaic.Lib.Pointwise.Index

@[expose] public section

noncomputable section

namespace Cert.KernelIdeal.Trip

open Idealize.ShloMosaic Idealize.SL.Sem

variable {F : FTy → Type} [FloatOps F]
variable [Facts]
open Facts₀ Facts

/-! ## Arrays read at numbers -/

/-- An array of two axes read at a pair of numbers. -/
def get2 {α : Type} {n0 n1 : ℕ} [NeZero n0] [NeZero n1] (f : (⟨2, ![n0, n1]⟩ : Shape).Idx → α) (y x : ℕ) : α :=
  f (ix2 (Fin.ofNat n0 y) (Fin.ofNat n1 x))
/-- An array of three axes read at three numbers. -/
def get3 {α : Type} {n0 n1 n2 : ℕ} [NeZero n0] [NeZero n1] [NeZero n2] (f : (⟨3, ![n0, n1, n2]⟩ : Shape).Idx → α) (z y x : ℕ) : α :=
  f (ix3 (Fin.ofNat n0 z) (Fin.ofNat n1 y) (Fin.ofNat n2 x))

theorem get2_eq {α : Type} {n0 n1 : ℕ} [NeZero n0] [NeZero n1] (f : (⟨2, ![n0, n1]⟩ : Shape).Idx → α) (j : (⟨2, ![n0, n1]⟩ : Shape).Idx)
    (y x : ℕ) (hy : (j 0).val = y) (hx : (j 1).val = x) : f j = get2 f y x := by
  refine congrArg f (funext fun a => Fin.ext ?_)
  match a with
  | ⟨0, _⟩ => show (j 0).val = y % n0; rw [← hy]; exact (Nat.mod_eq_of_lt (j 0).isLt).symm
  | ⟨1, _⟩ => show (j 1).val = x % n1; rw [← hx]; exact (Nat.mod_eq_of_lt (j 1).isLt).symm

theorem get3_eq {α : Type} {n0 n1 n2 : ℕ} [NeZero n0] [NeZero n1] [NeZero n2] (f : (⟨3, ![n0, n1, n2]⟩ : Shape).Idx → α)
    (j : (⟨3, ![n0, n1, n2]⟩ : Shape).Idx) (z y x : ℕ) (hz : (j 0).val = z) (hy : (j 1).val = y) (hx : (j 2).val = x) :
    f j = get3 f z y x := by
  refine congrArg f (funext fun a => Fin.ext ?_)
  match a with
  | ⟨0, _⟩ => show (j 0).val = z % n0; rw [← hz]; exact (Nat.mod_eq_of_lt (j 0).isLt).symm
  | ⟨1, _⟩ => show (j 1).val = y % n1; rw [← hy]; exact (Nat.mod_eq_of_lt (j 1).isLt).symm
  | ⟨2, _⟩ => show (j 2).val = x % n2; rw [← hx]; exact (Nat.mod_eq_of_lt (j 2).isLt).symm

/-! ## The number stored -/

/-- The sum over the window's places of one parity: window beginning at column `s`, weights of column `y`, channel `x`. -/
def dot (fu : Vec F S7x56x192 .f32) (fa : Vec F S56x208 .f32) (s y x b : ℕ) : F .f32 :=
  (places b).foldl (fun r p => FloatOps.addf r (FloatOps.mulf (get2 fa y (49 * (x / 48) + 7 * p.1 + p.2)) (get3 fu p.1 (s + p.2) x)))
    (Scalar.ofBits .f32 0x00000000#32)

/-- What the row holds for column `y` and channel `x`. -/
def oval (fu : Vec F S7x56x192 .f32) (fa : Vec F S56x208 .f32) (s y x : ℕ) : F .f32 :=
  FloatOps.addf (dot fu fa s y x 0) (dot fu fa s y x 1)

/-- Block `p` of 16 of row `y` of the weights. -/
def rdA (fa : Vec F S56x208 .f32) (y p : ℕ) : Vec F S1x16 .f32 := fun j => get2 fa y (16 * p + (j 1).val)
/-- Block `p` of 16 channels of column `c` of row `k` of the window. -/
def rdU (fu : Vec F S7x56x192 .f32) (k c p : ℕ) : Vec F S1x1x16 .f32 := fun j => get3 fu k c (16 * p + (j 2).val)

theorem places_mem : ∀ b, ∀ p ∈ places b, p.1 < 7 ∧ p.2 < 7 := by
  intro b
  by_cases hb : b = 0
  · subst hb; decide
  · unfold places; rw [if_neg hb]; decide

/-- A word of the weights read for head `n` is the weight of the place. -/
theorem pick_eq (fa : Vec F S56x208 .f32) (y : ℕ) (n : Fin 4) (k l : ℕ) (hk : k < 7) (hl : l < 7) :
    pick (fins4.map fun i => rdA fa y (wblk n i)) (n.val * 49 % 16 + k * 7 + l) = get2 fa y (49 * n.val + 7 * k + l) := by
  have ht : n.val * 49 % 16 + k * 7 + l < 64 := by omega
  have hq : (n.val * 49 % 16 + k * 7 + l) / 16 < 4 := by omega
  have hg : ∀ (q : ℕ) (hq : q < 4) (z : Vec F S1x16 .f32), (fins4.map fun i => rdA fa y (wblk n i)).getD q z = rdA fa y (wblk n ⟨q, hq⟩) := by
    intro q hq z
    match q, hq with
    | 0, _ => rfl
    | 1, _ => rfl
    | 2, _ => rfl
    | 3, _ => rfl
  unfold pick extractAt
  rw [hg _ hq]
  refine (extractStridedSlice_apply _ _ _ _ (ix1 ⟨(n.val * 49 % 16 + k * 7 + l) % 16, Nat.mod_lt _ (by decide)⟩) ?_).trans ?_
  · intro a
    match a with
    | ⟨0, _⟩ => rfl
  refine (shapeCast_apply _ _ _ (ix2 ⟨0, by decide⟩ ⟨(n.val * 49 % 16 + k * 7 + l) % 16, Nat.mod_lt _ (by decide)⟩) ?_).trans ?_
  · simp [Shape.rowMajor_val_one, Shape.rowMajor_val_two]
    try rfl
  show get2 fa y (16 * (n.val * 49 / 16 + (n.val * 49 % 16 + k * 7 + l) / 16) + (n.val * 49 % 16 + k * 7 + l) % 16) = _
  congr 1
  omega

/-- A vector of the window, cast, at a lane. -/
theorem cell_eq (fu : Vec F S7x56x192 .f32) {m : ℕ} (cols : List (Fin m)) (s : ℕ) (n : Fin 4)
    (hwin : ∀ (k : Fin 7) (c : Fin m) (j : Fin 3), (window cols)[(k.val * m + c.val) * 3 + j.val]? = some (k, c, j))
    (k c j : ℕ) (hk : k < 7) (hc : c < m) (hj : j < 3) (x : S16.Idx) :
    cell m ((window cols).map fun p => rdU fu p.1 (s + p.2.1) (blk n p.2.2)) k c j x
      = get3 fu k (s + c) (16 * (3 * n.val + j) + (x 0).val) := by
  unfold cell
  rw [show ((window cols).map fun p => rdU fu p.1 (s + p.2.1) (blk n p.2.2)).getD ((k * m + c) * 3 + j) (fun _ => Scalar.ofBits .f32 0#32)
      = rdU fu k (s + c) (blk n ⟨j, hj⟩) by
    rw [List.getD_eq_getElem?_getD, List.getElem?_map, hwin ⟨k, hk⟩ ⟨c, hc⟩ ⟨j, hj⟩]; rfl]
  refine (shapeCast_apply _ _ _ (ix3 ⟨0, by decide⟩ ⟨0, by decide⟩ (x 0) : S1x1x16.Idx) ?_).trans ?_
  · rw [Shape.rowMajor_val_one, Shape.rowMajor_val_three]
    show (0 * 1 + 0) * 16 + (x 0).val = (x 0).val
    omega
  show get3 fu k (s + c) (16 * (n.val * 3 + j) + (x 0).val) = _
  congr 1
  omega

/-- A fold of vectors, at a lane, is the fold of the lanes. -/
theorem foldl_lane {ι : Type} (L : List ι) (f : ι → FVec F S16 .f32) (g : ι → F .f32) (x : S16.Idx) (h : ∀ p ∈ L, f p x = g p)
    (z : FVec F S16 .f32) (z' : F .f32) (hz : z x = z') :
    (L.foldl (fun r p => addf r (f p)) z) x = L.foldl (fun r p => FloatOps.addf r (g p)) z' := by
  induction L generalizing z z' with
  | nil => exact hz
  | cons a L ih =>
    rw [List.foldl_cons, List.foldl_cons]
    refine ih (fun p hp => h p (List.mem_cons_of_mem _ hp)) _ _ ?_
    show FloatOps.addf (z x) (f a x) = _
    rw [hz, h a List.mem_cons_self]

theorem acc_eq (fu : Vec F S7x56x192 .f32) (fa : Vec F S56x208 .f32) {m : ℕ} (cols : List (Fin m)) (s y : ℕ) (n : Fin 4)
    (hwin : ∀ (k : Fin 7) (c : Fin m) (j : Fin 3), (window cols)[(k.val * m + c.val) * 3 + j.val]? = some (k, c, j))
    (d : ℕ) (hd : 7 + d ≤ m) (j : Fin 3) (b : ℕ) (x : S16.Idx) :
    acc (fins4.map fun i => rdA fa y (wblk n i)) (n.val * 49 % 16) m ((window cols).map fun p => rdU fu p.1 (s + p.2.1) (blk n p.2.2)) d j b x
      = dot fu fa (s + d) y (16 * (3 * n.val + j.val) + (x 0).val) b := by
  have hx : (x 0).val < 16 := (x 0).isLt
  unfold acc dot
  refine foldl_lane _ _ _ x (fun p hp => ?_) _ _ rfl
  obtain ⟨hk, hl⟩ := places_mem b p hp
  show FloatOps.mulf (pick _ _) (cell m _ p.1 (p.2 + d) j.val x) = _
  rw [pick_eq fa y n p.1 p.2 hk hl, cell_eq fu cols s n hwin p.1 (p.2 + d) j.val hk (by omega) j.isLt]
  have h1 : (16 * (3 * n.val + j.val) + (x 0).val) / 48 = n.val := by omega
  rw [h1, show s + (p.2 + d) = s + d + p.2 by omega]

/-- Lane `q` of a vector of 16. -/
def lane (q : Fin 16) : S16.Idx := ix1 q

/-- What a head stores in block `j`, lane by lane. -/
theorem outv_eq (fu : Vec F S7x56x192 .f32) (fa : Vec F S56x208 .f32) {m : ℕ} (cols : List (Fin m)) (s y : ℕ) (n : Fin 4)
    (hwin : ∀ (k : Fin 7) (c : Fin m) (j : Fin 3), (window cols)[(k.val * m + c.val) * 3 + j.val]? = some (k, c, j))
    (d : ℕ) (hd : 7 + d ≤ m) (j : Fin 3) (x : S1x16.Idx) :
    outv (fins4.map fun i => rdA fa y (wblk n i)) (n.val * 49 % 16) m ((window cols).map fun p => rdU fu p.1 (s + p.2.1) (blk n p.2.2)) d j x
      = oval fu fa (s + d) y (16 * (blk n j).val + (x 1).val) := by
  unfold outv
  refine (shapeCast_apply _ _ _ (lane (x 1)) ?_).trans ?_
  · have : (x 0).val = 0 := by have := (x 0).isLt; simp [S1x16] at this; omega
    rw [Shape.rowMajor_val_one, Shape.rowMajor_val_two, this]
    show (x 1).val = 0 * 16 + (x 1).val
    omega
  show FloatOps.addf (acc _ _ _ _ _ _ 0 _) (acc _ _ _ _ _ _ 1 _) = _
  erw [acc_eq fu fa cols s y n hwin d hd j 0 (lane (x 1)), acc_eq fu fa cols s y n hwin d hd j 1 (lane (x 1))]
  unfold oval
  have : (blk n j).val = 3 * n.val + j.val := by show n.val * 3 + j.val = _; omega
  rw [this]; rfl

theorem win7 : ∀ (k : Fin 7) (c : Fin 7) (j : Fin 3), (window fins7)[(k.val * 7 + c.val) * 3 + j.val]? = some (k, c, j) := by
  decide +kernel
theorem win8 : ∀ (k : Fin 7) (c : Fin 8) (j : Fin 3), (window fins8)[(k.val * 8 + c.val) * 3 + j.val]? = some (k, c, j) := by
  decide +kernel

end Cert.KernelIdeal.Trip
-- ==== Proof.TripRun.lean ====
/-
  A trip, run over its reads and stores: after it the row's two columns of the trip hold the numbers of `Value`, and
  every other place of the row is what it was.  The argument is about the order of the reads and stores alone; what a
  read yields and what a store leaves are its assumptions (`Runs`).
-/
module

public import proofs.«01_k».proof.Proof.Value

@[expose] public section

noncomputable section

namespace Cert.KernelIdeal.Trip

open Idealize.ShloMosaic Idealize.SL.Sem

variable {F : FTy → Type} [FloatOps F]
variable [Facts]
open Facts₀ Facts

/-- The row with 16 places of column `y`, those of block `p`, replaced. -/
def put (fo : Vec F S56x192 .f32) (y p : ℕ) (v : Vec F S1x16 .f32) : Vec F S56x192 .f32 :=
  fun i => if (i 0).val = y ∧ (i 1).val / 16 = p then v (ix2 (0 : Fin 1) (Fin.ofNat 16 (i 1).val)) else fo i

/-- The first column of the window of column `y`: three to the left, kept within 0 and 49. -/
def ws (y : ℕ) : ℕ := min 49 (y - 3)

/-- The row the tile computes. -/
def rowv (fu : Vec F S7x56x192 .f32) (fa : Vec F S56x208 .f32) : Vec F S56x192 .f32 :=
  fun i => oval fu fa (ws (i 0).val) (i 0).val (i 1).val

variable {E : Type → Type} {m : ℕ}

/-- What is assumed of a trip's reads and stores at columns `y` and `y + 1` with the window beginning at column `s`:
    `T fo p` says the program `p` runs well from the row holding `fo`. -/
structure Runs (P : Ports E F m) (T : Vec F S56x192 .f32 → Prog E PUnit → Prop) (fu : Vec F S7x56x192 .f32) (fa : Vec F S56x208 .f32)
    (y s : ℕ) : Prop where
  ldA : ∀ r p k fo, T fo (k (rdA fa (y + r.val) p.val)) → T fo (.op (P.ldA r p) k)
  ldU : ∀ z c p k fo, T fo (k (rdU fu z.val (s + c.val) p.val)) → T fo (.op (P.ldU z c p) k)
  ldO : ∀ r p k fo, (∀ v, T fo (k v)) → T fo (.op (P.ldO r p) k)
  stO : ∀ r p v k fo, T (put fo (y + r.val) p.val v) (k ⟨⟩) → T fo (.op (P.stO r p v) k)

theorem collect_run {α β : Type} (f : α → E β) (g : α → β) (T : Prog E PUnit → Prop)
    (h : ∀ a k, T (k (g a)) → T (.op (f a) k)) :
    ∀ (L : List α) (k : List β → Prog E PUnit), T (k (L.map g)) → T (collect f L k)
  | [], k, hk => hk
  | a :: L, k, hk => h a _ (collect_run f g T h L (fun bs => k (g a :: bs)) hk)

/-- The row after the first `q` blocks of the two columns `y`, `y + 1` have been stored, over what it was. -/
def Done (fu : Vec F S7x56x192 .f32) (fa : Vec F S56x208 .f32) (y : ℕ) (fo₀ : Vec F S56x192 .f32) (q : ℕ) (fo : Vec F S56x192 .f32) : Prop :=
  ∀ i, fo i = if ((i 0).val = y ∨ (i 0).val = y + 1) ∧ (i 1).val < 16 * q then rowv fu fa i else fo₀ i

theorem done_step {fu : Vec F S7x56x192 .f32} {fa : Vec F S56x208 .f32} {y : ℕ} {fo₀ fo : Vec F S56x192 .f32} {q : ℕ}
    (h : Done fu fa y fo₀ q fo) {v0 v1 : Vec F S1x16 .f32}
    (h0 : ∀ x, v0 x = oval fu fa (ws y) y (16 * q + (x 1).val)) (h1 : ∀ x, v1 x = oval fu fa (ws (y + 1)) (y + 1) (16 * q + (x 1).val)) :
    Done fu fa y fo₀ (q + 1) (put (put fo y q v0) (y + 1) q v1) := by
  intro i
  have hm : 16 * ((i 1).val / 16) + (i 1).val % 16 = (i 1).val := Nat.div_add_mod _ _
  unfold put
  by_cases c1 : (i 0).val = y + 1 ∧ (i 1).val / 16 = q
  · rw [if_pos c1, if_pos ⟨.inr c1.1, by omega⟩, h1]
    show oval fu fa (ws (y + 1)) (y + 1) (16 * q + (i 1).val % 16) = oval fu fa (ws (i 0).val) (i 0).val (i 1).val
    rw [c1.1, ← c1.2, hm]
  · rw [if_neg c1]
    by_cases c0 : (i 0).val = y ∧ (i 1).val / 16 = q
    · rw [if_pos c0, if_pos ⟨.inl c0.1, by omega⟩, h0]
      show oval fu fa (ws y) y (16 * q + (i 1).val % 16) = oval fu fa (ws (i 0).val) (i 0).val (i 1).val
      rw [c0.1, ← c0.2, hm]
    · rw [if_neg c0, h i]
      by_cases c : ((i 0).val = y ∨ (i 0).val = y + 1) ∧ (i 1).val < 16 * q
      · rw [if_pos c, if_pos ⟨c.1, by omega⟩]
      · rw [if_neg c, if_neg]
        rintro ⟨ha, hb⟩
        have : ¬ (i 1).val < 16 * q := fun hh => c ⟨ha, hh⟩
        have hq : (i 1).val / 16 = q := by omega
        rcases ha with ha | ha
        · exact c0 ⟨ha, hq⟩
        · exact c1 ⟨ha, hq⟩

section
variable {P : Ports E F m} {T : Vec F S56x192 .f32 → Prog E PUnit → Prop} {fu : Vec F S7x56x192 .f32} {fa : Vec F S56x208 .f32} {y s : ℕ}
  (R : Runs P T fu fa y s) (cols : List (Fin m)) (d : ℕ)
  (hwin : ∀ (k : Fin 7) (c : Fin m) (j : Fin 3), (window cols)[(k.val * m + c.val) * 3 + j.val]? = some (k, c, j))
  (hd : 7 + d ≤ m) (hs0 : s = ws y) (hs1 : s + d = ws (y + 1))
include R hwin hd hs0 hs1

/-- One head: three blocks more of the two columns. -/
theorem head_run (fo₀ fo : Vec F S56x192 .f32) (n : Fin 4) (next : Prog E PUnit) (h : Done fu fa y fo₀ (3 * n.val) fo)
    (hn : ∀ fo', Done fu fa y fo₀ (3 * (n.val + 1)) fo' → T fo' next) : T fo (head P cols d n next) := by
  unfold head
  refine collect_run _ (fun i => rdA fa y (wblk n i).val) (T fo) (fun i k hk => R.ldA 0 _ k fo hk) _ _ ?_
  refine collect_run _ (fun i => rdA fa (y + 1) (wblk n i).val) (T fo) (fun i k hk => R.ldA 1 _ k fo hk) _ _ ?_
  refine collect_run _ (fun p => rdU fu p.1.val (s + p.2.1.val) (blk n p.2.2).val) (T fo) (fun p k hk => R.ldU _ _ _ k fo hk) _ _ ?_
  have hb : ∀ j : Fin 3, (blk n j).val = 3 * n.val + j.val := fun j => by show n.val * 3 + j.val = _; omega
  have step : ∀ (j : Fin 3) (fo' : Vec F S56x192 .f32) (k : Prog E PUnit), Done fu fa y fo₀ (3 * n.val + j.val) fo' →
      (∀ fo'', Done fu fa y fo₀ (3 * n.val + j.val + 1) fo'' → T fo'' k) →
      T fo' (.op (P.ldO 0 (blk n j)) fun _ => .op (P.stO 0 (blk n j) (outv (fins4.map fun i => rdA fa y (wblk n i).val) (n.val * 49 % 16) m
          ((window cols).map fun p => rdU fu p.1.val (s + p.2.1.val) (blk n p.2.2).val) 0 j.val)) fun _ =>
        .op (P.ldO 1 (blk n j)) fun _ => .op (P.stO 1 (blk n j) (outv (fins4.map fun i => rdA fa (y + 1) (wblk n i).val) (n.val * 49 % 16) m
          ((window cols).map fun p => rdU fu p.1.val (s + p.2.1.val) (blk n p.2.2).val) d j.val)) fun _ => k) := by
    intro j fo' k hD hk
    refine R.ldO _ _ _ _ fun _ => R.stO _ _ _ _ _ (R.ldO _ _ _ _ fun _ => R.stO _ _ _ _ _ (hk _ ?_))
    have := done_step (q := 3 * n.val + j.val) hD
      (v0 := outv (fins4.map fun i => rdA fa y (wblk n i).val) (n.val * 49 % 16) m
          ((window cols).map fun p => rdU fu p.1.val (s + p.2.1.val) (blk n p.2.2).val) 0 j.val)
      (v1 := outv (fins4.map fun i => rdA fa (y + 1) (wblk n i).val) (n.val * 49 % 16) m
          ((window cols).map fun p => rdU fu p.1.val (s + p.2.1.val) (blk n p.2.2).val) d j.val)
      (fun x => by rw [outv_eq fu fa cols s y n hwin 0 (by omega) j x, hb, ← hs0]; rfl)
      (fun x => by rw [outv_eq fu fa cols s (y + 1) n hwin d hd j x, hb, ← hs1])
    rw [hb]
    exact this
  exact step 0 _ _ h fun f1 h1 => step 1 _ _ h1 fun f2 h2 => step 2 _ _ h2 fun f3 h3 => hn f3 h3

/-- One trip: the two columns whole. -/
theorem trip_run (fo : Vec F S56x192 .f32) (hn : ∀ fo', Done fu fa y fo 12 fo' → T fo' (.ret ⟨⟩)) : T fo (trip P cols d) := by
  have h0 : Done fu fa y fo (3 * (0 : Fin 4).val) fo := fun i => by rw [if_neg (by rintro ⟨-, h⟩; exact absurd h (by simp))]
  exact head_run R cols d hwin hd hs0 hs1 fo fo 0 _ h0 fun f1 h1 =>
    head_run R cols d hwin hd hs0 hs1 fo f1 1 _ h1 fun f2 h2 =>
    head_run R cols d hwin hd hs0 hs1 fo f2 2 _ h2 fun f3 h3 =>
    head_run R cols d hwin hd hs0 hs1 fo f3 3 _ h3 fun f4 h4 => hn f4 h4
end

theorem ws_A : ∀ t : Fin k1_t2_loop.trips, sA t = ws (cA t) ∧ sA t + 0 = ws (cA t + 1) := by decide +kernel
theorem ws_B : ∀ t : Fin k1_t3_loop.trips, sB t = ws (cB t) ∧ sB t + 1 = ws (cB t + 1) := by decide +kernel

end Cert.KernelIdeal.Trip
-- ==== Proof.Row.lean ====
/-
  The two loops over columns on a tile: from the window of `u`, the row of weights and a row of any contents, they
  leave the row that `rowv` names.
-/
module

public import proofs.«01_k».proof.Proof.Setup
public import proofs.«01_k».proof.Proof.TripRun

@[expose] public section

noncomputable section

namespace Cert.KernelIdeal.Run

open Cert.KernelIdeal Cert.KernelIdeal.Gen Cert.KernelIdeal.Trip

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "sU" => (Memref.whole Cert.KernelIdeal.cc1_scratch0 : Memref Cert.KernelIdeal.sig Kind.scVector Space.vmem Cert.KernelIdeal.S7x56x192 EltTy.f32)
local notation "sA" => (Memref.whole Cert.KernelIdeal.cc1_scratch1 : Memref Cert.KernelIdeal.sig Kind.scVector Space.vmem Cert.KernelIdeal.S56x208 EltTy.f32)
local notation "sO" => (Memref.whole Cert.KernelIdeal.cc1_scratch2 : Memref Cert.KernelIdeal.sig Kind.scVector Space.vmem Cert.KernelIdeal.S56x192 EltTy.f32)

variable (d : Dev nD) (L : grid1.Coords)

/-- The tile's three buffers: the window, the weights, the row. -/
abbrev bufs (fu : Vec F S7x56x192 .f32) (fa : Vec F S56x208 .f32) (fo : Vec F S56x192 .f32) : sProp 𝕄 :=
  iprop(((sU).view.loc (V d (cV L) (jV L)) ↦{fullShare} fu) ∗ ((sA).view.loc (V d (cV L) (jV L)) ↦{fullShare} fa)
    ∗ ((sO).view.loc (V d (cV L) (jV L)) ↦{fullShare} fo))

/-! ## What a read yields and what a store leaves -/

theorem rd_a (fa : Vec F S56x208 .f32) (w : BitVec 32) (r : Fin 2) (p : Fin 13) (y : ℕ) (hy : rowOf w r = y)
    (inb : ∀ a, offR w r p a + S1x16.size a ≤ S56x208.size a) :
    (sA).view.readAt (Elt F) (Rect.unit (s := S56x208) (offR w r p) S1x16.size inb).toLoadRect fa = rdA fa y p.val := by
  funext j
  refine get2_eq (n0 := 56) (n1 := 208) fa ((Rect.unit (s := S56x208) (offR w r p) S1x16.size inb).toLoadRect.idx j) _ _ ?_ ?_
  · have : (j 0).val = 0 := by have h : (j 0).val < 1 := (j 0).isLt; omega
    show rowOf w r + 1 * (j 0).val = y
    omega
  · show 16 * p.val + 1 * (j 1).val = 16 * p.val + (j 1).val
    omega

theorem rd_u (fu : Vec F S7x56x192 .f32) (cs : BitVec 32) (k c p y : ℕ)
    (hy : (Scalar.indexCast (Scalar.addi cs (BitVec.ofNat 32 c)) : Index).toNat = y)
    (inb : ∀ a, offU cs k c p a + S1x1x16.size a ≤ S7x56x192.size a) :
    (sU).view.readAt (Elt F) (Rect.unit (s := S7x56x192) (offU cs k c p) S1x1x16.size inb).toLoadRect fu = rdU fu k y p := by
  funext j
  refine get3_eq (n0 := 7) (n1 := 56) (n2 := 192) fu ((Rect.unit (s := S7x56x192) (offU cs k c p) S1x1x16.size inb).toLoadRect.idx j) _ _ _ ?_ ?_ ?_
  · have : (j 0).val = 0 := by have h : (j 0).val < 1 := (j 0).isLt; omega
    show k + 1 * (j 0).val = k
    omega
  · have : (j 1).val = 0 := by have h : (j 1).val < 1 := (j 1).isLt; omega
    show (Scalar.indexCast (Scalar.addi cs (BitVec.ofNat 32 c)) : Index).toNat + 1 * (j 1).val = y
    omega
  · show 16 * p + 1 * (j 2).val = 16 * p + (j 2).val
    omega

theorem wr_o (fo : Vec F S56x192 .f32) (w : BitVec 32) (r : Fin 2) (p : Fin 12) (v : Vec F S1x16 .f32) (y : ℕ) (hy : rowOf w r = y)
    (inb : ∀ a, offR w r p a + S1x16.size a ≤ S56x192.size a) :
    ((sO).access (Rect.unit (s := S56x192) (offR w r p) S1x16.size inb)).write (Elt F) fo v Finset.univ = put fo y p.val v := by
  funext i
  show ((View.whole cc1_scratch2 : View sig Kind.scVector _ _ _).writes (Elt F) fo [⟨Rect.unit (s := S56x192) (offR w r p) S1x16.size inb, v⟩]) i = _
  unfold put
  by_cases h : (i 0).val = y ∧ (i 1).val / 16 = p.val
  · rw [if_pos h]
    refine (View.read_writes_cons_hit_of_coords (View.whole cc1_scratch2 : View sig Kind.scVector _ _ _) fo
      (Rect.unit (s := S56x192) (offR w r p) S1x16.size inb) v [] (ix2 (0 : Fin 1) (Fin.ofNat 16 (i 1).val)) i ?_)
    intro a
    match a with
    | ⟨0, _⟩ => show (i 0).val = rowOf w r + 1 * 0; omega
    | ⟨1, _⟩ => show (i 1).val = 16 * p.val + 1 * ((i 1).val % 16); omega
  · rw [if_neg h]
    by_cases h0 : (i 0).val = y
    · have h1 : (i 1).val / 16 ≠ p.val := fun e => h ⟨h0, e⟩
      exact View.read_writes_cons_miss_of_axis (View.whole cc1_scratch2 : View sig Kind.scVector _ _ _) fo
        ⟨Rect.unit (s := S56x192) (offR w r p) S1x16.size inb, v⟩ [] i 1 (16 * p.val) 16 rfl rfl rfl (by omega)
    · exact View.read_writes_cons_miss_of_axis (View.whole cc1_scratch2 : View sig Kind.scVector _ _ _) fo
        ⟨Rect.unit (s := S56x192) (offR w r p) S1x16.size inb, v⟩ [] i 0 y 1 hy rfl rfl (by omega)

/-! ## The trips' reads and stores run -/

/-- The program runs from the three buffers to `Q`. -/
abbrev goes (Φ : PUnit.{1} → sProp (MT nD τ sig (HIx 1) (Elt F) ℕ UU ℕ)) (fu : Vec F S7x56x192 .f32) (fa : Vec F S56x208 .f32) (fo : Vec F S56x192 .f32)
    (p : Prog (TpuEff nD τ sig (Elt F) Λ₀ (.scVector (cV L) (jV L))) PUnit.{1}) : Prop :=
  bufs d L fu fa fo ⊢ wp frame (wpE (defs₀ (F := F)) 𝒱₀ (V d (cV L) (jV L)) none) Set.univ p Φ

section Rules
variable {d L} {Φ : PUnit.{1} → sProp (MT nD τ sig (HIx 1) (Elt F) ℕ UU ℕ)} {fu : Vec F S7x56x192 .f32} {fa : Vec F S56x208 .f32}

theorem go_ldA {w : BitVec 32} {r : Fin 2} {p : Fin 13} {y : ℕ} (hy : rowOf w r = y)
    {inb : ∀ a, offR w r p a + S1x16.size a ≤ S56x208.size a} {hl} {k} {fo : Vec F S56x192 .f32} (h : goes d L Φ fu fa fo (k (rdA fa y p.val))) :
    goes d L Φ fu fa fo (.op (TpuEff.load sA (Rect.unit (s := S56x208) (offR w r p) S1x16.size inb).toLoadRect hl) k) := by
  unfold goes bufs at *
  iintro ⟨Hu, Ha, Ho⟩
  iapply (wp_load 𝒱₀ (V d (cV L) (jV L)) none Set.univ (S := Finset.univ) (Finset.subset_univ _)) $$ Ha
  iintro Ha
  rw [rd_a fa w r p y hy inb]
  iapply h
  isplitl [Hu]; · iexact Hu
  isplitl [Ha] <;> iassumption

theorem go_ldU {cs : BitVec 32} {z c q y : ℕ} (hy : (Scalar.indexCast (Scalar.addi cs (BitVec.ofNat 32 c)) : Index).toNat = y)
    {inb : ∀ a, offU cs z c q a + S1x1x16.size a ≤ S7x56x192.size a} {hl} {k} {fo : Vec F S56x192 .f32} (h : goes d L Φ fu fa fo (k (rdU fu z y q))) :
    goes d L Φ fu fa fo (.op (TpuEff.load sU (Rect.unit (s := S7x56x192) (offU cs z c q) S1x1x16.size inb).toLoadRect hl) k) := by
  unfold goes bufs at *
  iintro ⟨Hu, Ha, Ho⟩
  iapply (wp_load 𝒱₀ (V d (cV L) (jV L)) none Set.univ (S := Finset.univ) (Finset.subset_univ _)) $$ Hu
  iintro Hu
  rw [rd_u fu cs z c q y hy inb]
  iapply h
  isplitl [Hu]; · iexact Hu
  isplitl [Ha] <;> iassumption

theorem go_ldO {w : BitVec 32} {r : Fin 2} {p : Fin 12}
    {inb : ∀ a, offR w r p a + S1x16.size a ≤ S56x192.size a} {hl} {k} {fo : Vec F S56x192 .f32} (h : ∀ v, goes d L Φ fu fa fo (k v)) :
    goes d L Φ fu fa fo (.op (TpuEff.load sO (Rect.unit (s := S56x192) (offR w r p) S1x16.size inb).toLoadRect hl) k) := by
  unfold goes bufs at *
  iintro ⟨Hu, Ha, Ho⟩
  iapply (wp_load 𝒱₀ (V d (cV L) (jV L)) none Set.univ (S := Finset.univ) (Finset.subset_univ _)) $$ Ho
  iintro Ho
  iapply (h _)
  isplitl [Hu]; · iexact Hu
  isplitl [Ha] <;> iassumption

theorem go_stO {w : BitVec 32} {r : Fin 2} {p : Fin 12} {v : Vec F S1x16 .f32} {y : ℕ} (hy : rowOf w r = y)
    {inb : ∀ a, offR w r p a + S1x16.size a ≤ S56x192.size a} {hx hm} {k} {fo : Vec F S56x192 .f32} (h : goes d L Φ fu fa (put fo y p.val v) (k ⟨⟩)) :
    goes d L Φ fu fa fo (.op (TpuEff.store sO (Rect.unit (s := S56x192) (offR w r p) S1x16.size inb) v Finset.univ hx hm) k) := by
  unfold goes bufs at *
  iintro ⟨Hu, Ha, Ho⟩
  iapply (wp_store 𝒱₀ (V d (cV L) (jV L)) none Set.univ (m := sO) (r := Rect.unit (s := S56x192) (offR w r p) S1x16.size inb) (S := Finset.univ) (Finset.subset_univ _)) $$ Ho
  iintro Ho
  rw [wr_o fo w r p v y hy inb]
  iapply h
  isplitl [Hu]; · iexact Hu
  isplitl [Ha] <;> iassumption

end Rules

theorem runs_A (Φ : PUnit.{1} → sProp (MT nD τ sig (HIx 1) (Elt F) ℕ UU ℕ)) (fu : Vec F S7x56x192 .f32) (fa : Vec F S56x208 .f32) (t : Fin k1_t2_loop.trips) :
    Runs (portsA L sU sA sO t) (goes d L Φ fu fa) fu fa (cA t) (Trip.sA t) where
  ldA r p k fo h := go_ldA (rowOf_A t r) h
  ldU z c p k fo h := go_ldU (win_A t c) h
  ldO r p k fo h := go_ldO h
  stO r p v k fo h := go_stO (rowOf_A t r) h

theorem runs_B (Φ : PUnit.{1} → sProp (MT nD τ sig (HIx 1) (Elt F) ℕ UU ℕ)) (fu : Vec F S7x56x192 .f32) (fa : Vec F S56x208 .f32) (t : Fin k1_t3_loop.trips) :
    Runs (portsB L sU sA sO t) (goes d L Φ fu fa) fu fa (cB t) (sB t) where
  ldA r p k fo h := go_ldA (rowOf_B t r) h
  ldU z c p k fo h := go_ldU (win_B t c) h
  ldO r p k fo h := go_ldO h
  stO r p v k fo h := go_stO (rowOf_B t r) h

/-! ## The loops -/

/-- Row `y` of the row block is done before trip `n` of the first loop: it is one of the columns of the earlier trips. -/
def doneA (n y : ℕ) : Prop := ∃ t < n, y = cA t ∨ y = cA t + 1
/-- The same of the second loop, the first loop's columns done already. -/
def doneB (n y : ℕ) : Prop := doneA 4 y ∨ ∃ t < n, y = cB t ∨ y = cB t + 1

theorem doneB_all : ∀ y < 56, doneB 24 y := by
  intro y hy
  by_cases h : y < 4
  · exact .inl ⟨y / 2, by omega, by unfold cA; omega⟩
  by_cases h' : y < 52
  · exact .inr ⟨y / 2 - 2, by omega, by unfold cB; omega⟩
  · exact .inl ⟨2 + (y - 52) / 2, by omega, by unfold cA; omega⟩

/-- The three buffers, the row right at the columns `P` holds of. -/
def upTo (fu : Vec F S7x56x192 .f32) (fa : Vec F S56x208 .f32) (P : ℕ → Prop) : sProp 𝕄 :=
  iprop(∃ fo : Vec F S56x192 .f32, ⌜∀ i, P (i 0).val → fo i = rowv fu fa i⌝ ∗ bufs d L fu fa fo)

theorem trip_A (fu : Vec F S7x56x192 .f32) (fa : Vec F S56x208 .f32) (t : Fin k1_t2_loop.trips) :
    upTo d L fu fa (doneA t.val) ⊢ wp frame (wpE (defs₀ (F := F)) 𝒱₀ (V d (cV L) (jV L)) none) Set.univ
      (trip (portsA L sU sA sO t) fins7 0) (fun _ => upTo d L fu fa (doneA (t.val + 1))) := by
  unfold upTo
  iintro ⟨%fo, %h, H⟩
  have key := trip_run (runs_A d L (fun _ => upTo d L fu fa (doneA (t.val + 1))) fu fa t) fins7 0 win7 (by decide) (ws_A t).1 (ws_A t).2 fo
  unfold goes upTo at key
  iapply (key ?_) $$ H
  intro fo' hD
  rw [wp_ret]
  iintro H
  imodintro
  iexists fo'
  isplitr
  · ipureintro
    rintro i ⟨s, hs, hi⟩
    rw [hD i]
    by_cases c : (i 0).val = cA t ∨ (i 0).val = cA t + 1
    · rw [if_pos ⟨c, (i 1).isLt⟩]
    · rw [if_neg (fun e => c e.1)]
      refine h i ⟨s, ?_, hi⟩
      have : s ≠ t.val := fun e => c (e ▸ hi)
      omega
  · iexact H

theorem trip_B (fu : Vec F S7x56x192 .f32) (fa : Vec F S56x208 .f32) (t : Fin k1_t3_loop.trips) :
    upTo d L fu fa (doneB t.val) ⊢ wp frame (wpE (defs₀ (F := F)) 𝒱₀ (V d (cV L) (jV L)) none) Set.univ
      (trip (portsB L sU sA sO t) fins8 1) (fun _ => upTo d L fu fa (doneB (t.val + 1))) := by
  unfold upTo
  iintro ⟨%fo, %h, H⟩
  have key := trip_run (runs_B d L (fun _ => upTo d L fu fa (doneB (t.val + 1))) fu fa t) fins8 1 win8 (by decide) (ws_B t).1 (ws_B t).2 fo
  unfold goes upTo at key
  iapply (key ?_) $$ H
  intro fo' hD
  rw [wp_ret]
  iintro H
  imodintro
  iexists fo'
  isplitr
  · ipureintro
    intro i hi
    rw [hD i]
    by_cases c : (i 0).val = cB t ∨ (i 0).val = cB t + 1
    · rw [if_pos ⟨c, (i 1).isLt⟩]
    · rw [if_neg (fun e => c e.1)]
      refine h i ?_
      rcases hi with hi | ⟨s, hs, hi⟩
      · exact .inl hi
      · have : s ≠ t.val := fun e => c (e ▸ hi)
        exact .inr ⟨s, by omega, hi⟩
  · iexact H

theorem trips2 : k1_t2_loop.trips = 4 := by decide
theorem trips3 : k1_t3_loop.trips = 24 := by decide

/-- Two loops of such trips, before whatever follows. -/
theorem two_loops (ok2 : k1_t2_loop.OK) (ok3 : k1_t3_loop.OK) (fu : Vec F S7x56x192 .f32) (fa : Vec F S56x208 .f32) (fo : Vec F S56x192 .f32)
    (bA : Fin k1_t2_loop.trips → PUnit.{1} → Prog (TpuEff nD τ sig (Elt F) Λ₀ (.scVector (cV L) (jV L))) PUnit.{1})
    (bB : Fin k1_t3_loop.trips → PUnit.{1} → Prog (TpuEff nD τ sig (Elt F) Λ₀ (.scVector (cV L) (jV L))) PUnit.{1})
    (hA : ∀ t x, upTo d L fu fa (doneA t.val) ⊢ wp frame (wpE (defs₀ (F := F)) 𝒱₀ (V d (cV L) (jV L)) none) Set.univ (bA t x)
      (fun _ => upTo d L fu fa (doneA (t.val + 1))))
    (hB : ∀ t x, upTo d L fu fa (doneB t.val) ⊢ wp frame (wpE (defs₀ (F := F)) 𝒱₀ (V d (cV L) (jV L)) none) Set.univ (bB t x)
      (fun _ => upTo d L fu fa (doneB (t.val + 1))))
    {β : Type} (k : Prog (TpuEff nD τ sig (Elt F) Λ₀ (.scVector (cV L) (jV L))) β) (Φ : β → sProp (MT nD τ sig (HIx 1) (Elt F) ℕ UU ℕ)) :
    bufs d L fu fa fo ⊢ iprop((bufs d L fu fa (rowv fu fa)
        -∗ wp frame (wpE (defs₀ (F := F)) 𝒱₀ (V d (cV L) (jV L)) none) Set.univ k Φ)
      -∗ wp frame (wpE (defs₀ (F := F)) 𝒱₀ (V d (cV L) (jV L)) none) Set.univ
        (Scf.Loop.for k1_t2_loop ok2 ⟨⟩ bA >>= fun _ => Scf.Loop.for k1_t3_loop ok3 ⟨⟩ bB >>= fun _ => k) Φ) := by
  iintro H Hk
  iapply (Scf.wp_for_bind frame (wpE (defs₀ (F := F)) 𝒱₀ (V d (cV L) (jV L)) none) Set.univ k1_t2_loop.lb k1_t2_loop.ub k1_t2_loop.st
    ok2 ⟨⟩ bA (fun n _ => upTo d L fu fa (doneA n)) hA) $$ [H]
  · unfold upTo
    iexists fo
    isplitr
    · ipureintro
      rintro i ⟨s, hs, -⟩
      exact absurd hs (Nat.not_lt_zero _)
    · iexact H
  iintro %_ H
  rw [show Scf.trips k1_t2_loop.lb k1_t2_loop.ub k1_t2_loop.st = 4 from trips2]
  iapply (Scf.wp_for_bind frame (wpE (defs₀ (F := F)) 𝒱₀ (V d (cV L) (jV L)) none) Set.univ k1_t3_loop.lb k1_t3_loop.ub k1_t3_loop.st
    ok3 ⟨⟩ bB (fun n _ => upTo d L fu fa (doneB n)) hB) $$ [H]
  · unfold upTo
    icases H with ⟨%f1, %h1, H⟩
    iexists f1
    isplitr
    · ipureintro
      rintro i (hi | ⟨s, hs, -⟩)
      · exact h1 i hi
      · exact absurd hs (Nat.not_lt_zero _)
    · iexact H
  iintro %_ H
  rw [show Scf.trips k1_t3_loop.lb k1_t3_loop.ub k1_t3_loop.st = 24 from trips3]
  unfold upTo
  icases H with ⟨%f2, %h2, H⟩
  have e : f2 = rowv fu fa := funext fun i => h2 i (doneB_all _ (i 0).isLt)
  subst e
  iapply Hk
  iexact H

/-- The kernel's two loops, before whatever follows. -/
theorem loops (ok2 : k1_t2_loop.OK) (ok3 : k1_t3_loop.OK) (fu : Vec F S7x56x192 .f32) (fa : Vec F S56x208 .f32) (fo : Vec F S56x192 .f32)
    {β : Type} (k : Prog (TpuEff nD τ sig (Elt F) Λ₀ (.scVector (cV L) (jV L))) β) (Φ : β → sProp (MT nD τ sig (HIx 1) (Elt F) ℕ UU ℕ)) :
    bufs d L fu fa fo ⊢ iprop((bufs d L fu fa (rowv fu fa)
        -∗ wp frame (wpE (defs₀ (F := F)) 𝒱₀ (V d (cV L) (jV L)) none) Set.univ k Φ)
      -∗ wp frame (wpE (defs₀ (F := F)) 𝒱₀ (V d (cV L) (jV L)) none) Set.univ
        (Scf.Loop.for k1_t2_loop ok2 ⟨⟩ (fun t _ => trip (portsA L sU sA sO t) fins7 0) >>= fun _ =>
          Scf.Loop.for k1_t3_loop ok3 ⟨⟩ (fun t _ => trip (portsB L sU sA sO t) fins8 1) >>= fun _ => k) Φ) :=
  two_loops d L ok2 ok3 fu fa fo _ _ (fun t _ => trip_A d L fu fa t) (fun t _ => trip_B d L fu fa t) k Φ

end Cert.KernelIdeal.Run
-- ==== Proof.RowEq.lean ====
/-
  The printed row body is its short form.
-/
module

public import proofs.«01_k».proof.Proof.Trip

@[expose] public section

noncomputable section

namespace Cert.KernelIdeal.Trip

open Idealize.ShloMosaic Idealize.SL.Sem

variable {F : FTy → Type} [FloatOps F]

variable [Facts]
open Facts₀ Facts

theorem bind_congr {E : Type → Type} {α β : Type} {p p' : Prog E α} {k k' : α → Prog E β} (hp : p = p') (hk : ∀ x, k x = k' x) :
    p >>= k = p' >>= k' := by rw [hp, funext hk]

theorem op_congr {E : Type → Type} {α β : Type} {e e' : E α} {k k' : α → Prog E β} (he : e = e') (hk : ∀ x, k x = k' x) :
    Prog.op e k = Prog.op e' k' := by rw [he, funext hk]

/-- Eight operations at once: what two programs do first agrees, operation by operation, and so does what follows. -/
theorem op_congr8 {E : Type → Type} {β : Type} {α1 α2 α3 α4 α5 α6 α7 α8 : Type}
    {e1 : E α1}    {e2 : α1 → E α2}    {e3 : α1 → α2 → E α3}    {e4 : α1 → α2 → α3 → E α4}    {e5 : α1 → α2 → α3 → α4 → E α5}    {e6 : α1 → α2 → α3 → α4 → α5 → E α6}    {e7 : α1 → α2 → α3 → α4 → α5 → α6 → E α7}    {e8 : α1 → α2 → α3 → α4 → α5 → α6 → α7 → E α8} {k : α1 → α2 → α3 → α4 → α5 → α6 → α7 → α8 → Prog E β}
    {e1' : E α1}    {e2' : α1 → E α2}    {e3' : α1 → α2 → E α3}    {e4' : α1 → α2 → α3 → E α4}    {e5' : α1 → α2 → α3 → α4 → E α5}    {e6' : α1 → α2 → α3 → α4 → α5 → E α6}    {e7' : α1 → α2 → α3 → α4 → α5 → α6 → E α7}    {e8' : α1 → α2 → α3 → α4 → α5 → α6 → α7 → E α8} {k' : α1 → α2 → α3 → α4 → α5 → α6 → α7 → α8 → Prog E β}
    (h1 : e1 = e1')
    (h2 : ∀ x1, e2 x1 = e2' x1)
    (h3 : ∀ x1 x2, e3 x1 x2 = e3' x1 x2)
    (h4 : ∀ x1 x2 x3, e4 x1 x2 x3 = e4' x1 x2 x3)
    (h5 : ∀ x1 x2 x3 x4, e5 x1 x2 x3 x4 = e5' x1 x2 x3 x4)
    (h6 : ∀ x1 x2 x3 x4 x5, e6 x1 x2 x3 x4 x5 = e6' x1 x2 x3 x4 x5)
    (h7 : ∀ x1 x2 x3 x4 x5 x6, e7 x1 x2 x3 x4 x5 x6 = e7' x1 x2 x3 x4 x5 x6)
    (h8 : ∀ x1 x2 x3 x4 x5 x6 x7, e8 x1 x2 x3 x4 x5 x6 x7 = e8' x1 x2 x3 x4 x5 x6 x7)
    (hk : ∀ x1 x2 x3 x4 x5 x6 x7 x8, k x1 x2 x3 x4 x5 x6 x7 x8 = k' x1 x2 x3 x4 x5 x6 x7 x8) :
    Prog.op (e1) (fun x1 => Prog.op (e2 x1) (fun x2 => Prog.op (e3 x1 x2) (fun x3 => Prog.op (e4 x1 x2 x3) (fun x4 => Prog.op (e5 x1 x2 x3 x4) (fun x5 => Prog.op (e6 x1 x2 x3 x4 x5) (fun x6 => Prog.op (e7 x1 x2 x3 x4 x5 x6) (fun x7 => Prog.op (e8 x1 x2 x3 x4 x5 x6 x7) (fun x8 => k x1 x2 x3 x4 x5 x6 x7 x8)))))))) =
    Prog.op (e1') (fun x1 => Prog.op (e2' x1) (fun x2 => Prog.op (e3' x1 x2) (fun x3 => Prog.op (e4' x1 x2 x3) (fun x4 => Prog.op (e5' x1 x2 x3 x4) (fun x5 => Prog.op (e6' x1 x2 x3 x4 x5) (fun x6 => Prog.op (e7' x1 x2 x3 x4 x5 x6) (fun x7 => Prog.op (e8' x1 x2 x3 x4 x5 x6 x7) (fun x8 => k' x1 x2 x3 x4 x5 x6 x7 x8)))))))) := by
  obtain rfl : e1 = e1' := by apply h1
  obtain rfl : e2 = e2' := by funext x1; apply h2
  obtain rfl : e3 = e3' := by funext x1 x2; apply h3
  obtain rfl : e4 = e4' := by funext x1 x2 x3; apply h4
  obtain rfl : e5 = e5' := by funext x1 x2 x3 x4; apply h5
  obtain rfl : e6 = e6' := by funext x1 x2 x3 x4 x5; apply h6
  obtain rfl : e7 = e7' := by funext x1 x2 x3 x4 x5 x6; apply h7
  obtain rfl : e8 = e8' := by funext x1 x2 x3 x4 x5 x6 x7; apply h8
  obtain rfl : k = k' := by funext x1 x2 x3 x4 x5 x6 x7 x8; apply hk
  rfl

set_option maxRecDepth 100000 in
set_option maxHeartbeats 0 in
theorem row_eq (i : grid1.Coords) (arg2 : Memref sig .scVector .hbm S56x56x192 .f32) (harg2 : arg2.IsWhole) (arg3 : Memref sig .scVector .hbm S56x56x208 .f32) (harg3 : arg3.IsWhole) (arg4 : Memref sig .scVector .hbm S3136x192 .f32) (harg4 : arg4.IsWhole) (arg5 : Memref sig .scVector .vmem S7x56x192 .f32) (harg5 : arg5.IsWhole) (arg6 : Memref sig .scVector .vmem S56x208 .f32) (harg6 : arg6.IsWhole) (arg7 : Memref sig .scVector .vmem S56x192 .f32) (harg7 : arg7.IsWhole) (arg8 : DmaSems sig S_) (arg9 : DmaSems sig S_) (v26_r0 : DmaSems sig S_) (k1_t1 : Fin k1_t1_loop.trips) (v4 : BitVec 32) (k1_h1 : k1_cond1 i k1_t1 = 1#1) :
    k1_part306 (F := F) i arg2 harg2 arg3 harg3 arg4 harg4 arg5 harg5 arg6 harg6 arg7 harg7 arg8 arg9 v26_r0 k1_t1 v4 k1_h1 = (do
      let us := arg2.slice (Rect.unit (s := S56x56x192) (k1_off1 i k1_t1) S7x56x192.size (k1_off1_inb i k1_t1 k1_h1)) (fun _ => rfl)
      let ws := (arg3.slice (Rect.unit (s := S56x56x208) (k1_off2 i k1_t1) S1x56x208.size (k1_off2_inb i k1_t1 k1_h1)) (fun _ => rfl)).squeeze
        S56x208 squeezes_S1x56x208_S56x208
      Prog.lift (.enqueueDma us (.here arg5) (.dma arg8.sem) (View.wordExact_bits rfl) harg5.wordExact ⟨Or.inl rfl, trivial⟩)
      Prog.lift (.enqueueDma ws (.here arg6) (.dma arg9.sem) ((View.wordExact_bits rfl).reshape _ _) harg6.wordExact ⟨Or.inl rfl, trivial⟩)
      Prog.lift (.waitDma2 arg8.sem us arg5 (View.wordExact_bits rfl) harg5.wordExact)
      Prog.lift (.waitDma2 arg9.sem ws arg6 ((View.wordExact_bits rfl).reshape _ _) harg6.wordExact)
      Scf.Loop.for k1_t2_loop (k1_t2_ok i k1_t1 k1_h1) ⟨⟩ fun t _ => trip (portsA i arg5 arg6 arg7 t) fins7 0
      Scf.Loop.for k1_t3_loop (k1_t3_ok i k1_t1 k1_h1) ⟨⟩ fun t _ => trip (portsB i arg5 arg6 arg7 t) fins8 1
      Prog.lift (.enqueueDma arg7 (.here (arg4.slice (Rect.unit (s := S3136x192) (k1_off271 i k1_t1) S56x192.size (k1_off271_inb i k1_t1 k1_h1)) (fun _ => rfl)))
        (.dma v26_r0.sem) harg7.wordExact (View.wordExact_bits rfl) ⟨Or.inl rfl, trivial⟩)) := by
  unfold k1_part306
  refine bind_congr rfl fun _ => ?_
  refine bind_congr rfl fun _ => ?_
  refine bind_congr rfl fun _ => ?_
  refine bind_congr rfl fun _ => ?_
  refine bind_congr (congrArg (Scf.Loop.for _ _ _) (funext fun t => funext fun _ => ?_)) fun _ =>
    bind_congr (congrArg (Scf.Loop.for _ _ _) (funext fun t => funext fun _ => ?_)) fun _ => rfl
  · repeat
      refine op_congr8 rfl (fun _ => rfl) (fun _ _ => rfl) (fun _ _ _ => rfl) (fun _ _ _ _ => rfl) (fun _ _ _ _ _ => rfl) (fun _ _ _ _ _ _ => rfl)
        (fun _ _ _ _ _ _ _ => rfl) fun _ _ _ _ _ _ _ _ => ?_
    repeat refine op_congr rfl fun _ => ?_
    rfl
  · repeat
      refine op_congr8 rfl (fun _ => rfl) (fun _ _ => rfl) (fun _ _ _ => rfl) (fun _ _ _ _ => rfl) (fun _ _ _ _ _ => rfl) (fun _ _ _ _ _ _ => rfl)
        (fun _ _ _ _ _ _ _ => rfl) fun _ _ _ _ _ _ _ _ => ?_
    repeat refine op_congr rfl fun _ => ?_
    rfl

end Cert.KernelIdeal.Trip
-- ==== Proof.Tile.lean ====
/-
  A tile's task: for each of its rows, the copies in, the two loops, and the copy out.
-/
module

public import proofs.«01_k».proof.Proof.Row
public import proofs.«01_k».proof.Proof.RowEq

@[expose] public section

noncomputable section

namespace Cert.KernelIdeal.Run

open Cert.KernelIdeal Cert.KernelIdeal.Gen Cert.KernelIdeal.Trip

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "hU" => (Memref.whole Cert.KernelIdeal.main_v8_scv : Memref Cert.KernelIdeal.sig Kind.scVector Space.hbm Cert.KernelIdeal.S56x56x192 EltTy.f32)
local notation "hA" => (Memref.whole Cert.KernelIdeal.main_v5_scv : Memref Cert.KernelIdeal.sig Kind.scVector Space.hbm Cert.KernelIdeal.S56x56x208 EltTy.f32)
local notation "hO" => (Memref.whole Cert.KernelIdeal.main_v9_scv : Memref Cert.KernelIdeal.sig Kind.scVector Space.hbm Cert.KernelIdeal.S3136x192 EltTy.f32)
local notation "sU" => (Memref.whole Cert.KernelIdeal.cc1_scratch0 : Memref Cert.KernelIdeal.sig Kind.scVector Space.vmem Cert.KernelIdeal.S7x56x192 EltTy.f32)
local notation "sA" => (Memref.whole Cert.KernelIdeal.cc1_scratch1 : Memref Cert.KernelIdeal.sig Kind.scVector Space.vmem Cert.KernelIdeal.S56x208 EltTy.f32)
local notation "sO" => (Memref.whole Cert.KernelIdeal.cc1_scratch2 : Memref Cert.KernelIdeal.sig Kind.scVector Space.vmem Cert.KernelIdeal.S56x192 EltTy.f32)

/-! ## The arrays and what the call leaves -/

/-- The kernel's operands and its result on device `d`: the values `u`, the weights, the aggregate. -/
abbrev uLoc (d : Dev nD) : Loc nD τ sig := (SparseCore.T d).loc main_v8
abbrev aLoc (d : Dev nD) : Loc nD τ sig := (SparseCore.T d).loc main_v5
abbrev oLoc (d : Dev nD) : Loc nD τ sig := (SparseCore.T d).loc main_v9

/-- The seven rows of `u` that row `h` of the image looks at. -/
def uwin (U : Vec F S56x56x192 .f32) (h : ℕ) : Vec F S7x56x192 .f32 :=
  fun j => get3 (n0 := 56) (n1 := 56) (n2 := 192) U (ws h + (j 0).val) (j 1).val (j 2).val
/-- Row `h` of the weights. -/
def arow (A : Vec F S56x56x208 .f32) (h : ℕ) : Vec F S56x208 .f32 :=
  fun j => get3 (n0 := 56) (n1 := 56) (n2 := 208) A h (j 0).val (j 1).val
/-- The aggregate: row `h`'s 56 columns are rows `56 h … 56 h + 55` of the result. -/
def aggv (U : Vec F S56x56x192 .f32) (A : Vec F S56x56x208 .f32) : Vec F S3136x192 .f32 :=
  fun i => get2 (n0 := 56) (n1 := 192) (rowv (uwin U ((i 0).val / 56)) (arow A ((i 0).val / 56))) ((i 0).val % 56) (i 1).val

/-- The places of the result that image row `n` gives. -/
def rows (n : ℕ) : Finset S3136x192.Idx := Finset.univ.filter fun i => (i 0).val / 56 = n

/-- The image row of a tile's trip `t`. -/
abbrev hrow (L : grid1.Coords) (t : ℕ) : ℕ := 2 * (L 1).val + (L 0).val + 32 * t

variable (d : Dev nD) (L : grid1.Coords)

abbrev uSl (t : Fin k1_t1_loop.trips) (h1 : k1_cond1 L t = 1#1) : Memref sig .scVector .hbm S7x56x192 .f32 :=
  (hU).slice (Rect.unit (s := S56x56x192) (k1_off1 L t) S7x56x192.size (k1_off1_inb L t h1)) (fun _ => rfl)
abbrev aSl (t : Fin k1_t1_loop.trips) (h1 : k1_cond1 L t = 1#1) : Memref sig .scVector .hbm S56x208 .f32 :=
  ((hA).slice (Rect.unit (s := S56x56x208) (k1_off2 L t) S1x56x208.size (k1_off2_inb L t h1)) (fun _ => rfl)).squeeze
        S56x208 squeezes_S1x56x208_S56x208
abbrev oSl (t : Fin k1_t1_loop.trips) (h1 : k1_cond1 L t = 1#1) : Memref sig .scVector .hbm S56x192 .f32 :=
  (hO).slice (Rect.unit (s := S3136x192) (k1_off271 L t) S56x192.size (k1_off271_inb L t h1)) (fun _ => rfl)

/-- The tile's three copies' cells. -/
abbrev cell3 : GSem nD τ sig := (V d (cV L) (jV L), .dma cc1_scratch3.sem)
abbrev cell4 : GSem nD τ sig := (V d (cV L) (jV L), .dma cc1_scratch4.sem)
abbrev cell0 : GSem nD τ sig := (V d (cV L) (jV L), .dma cc1_scoped0.sem)

/-- What a tile has besides the result's rows: the operands, to read; its buffers; its cells; its debts. -/
def tools (qu qa : PosShare TreeShare) (U : Vec F S56x56x192 .f32) (A : Vec F S56x56x208 .f32) (O : CellTallies nD τ sig (HIx 1)) : sProp 𝕄 :=
  iprop((uLoc d ↦{qu} U) ∗ (aLoc d ↦{qa} A) ∗ (∃ fu fa fo, bufs d L fu fa fo)
    ∗ semVal (cell3 d L) 0 ∗ semVal (cell4 d L) 0 ∗ semVal (cell0 d L) 0 ∗ ∃ W, owes (V d (cV L) (jV L)) O W)

/-! ## The slices' places and contents -/

theorem cond_iff : ∀ (i : grid1.Coords) (t : Fin k1_t1_loop.trips), k1_cond1 i t = 1#1 ↔ hrow i t.val < 56 := by decide +kernel
theorem off1_ws : ∀ (i : grid1.Coords) (t : Fin k1_t1_loop.trips), k1_cond1 i t = 1#1 → k1_off1 i t = ![ws (hrow i t.val), 0, 0] := by
  decide +kernel

theorem mem_rows {n : ℕ} {i : S3136x192.Idx} : i ∈ rows n ↔ (i 0).val / 56 = n := by
  unfold rows; rw [Finset.mem_filter]; exact ⟨fun h => h.2, fun h => ⟨Finset.mem_univ _, h⟩⟩

theorem off271_0 (t : Fin k1_t1_loop.trips) : k1_off271 L t 0 = 56 * hrow L t.val := by
  rw [k1_off271_eq]
  show 112 * (L 1).val + 56 * (L 0).val + 1792 * t.val = _
  unfold hrow; omega

theorem set_oSl (t : Fin k1_t1_loop.trips) (h1 : k1_cond1 L t = 1#1) : (oSl L t h1).view.set = rows (hrow L t.val) := by
  show ((View.whole (main_v9_scv : Ref sig .scVector)).slice (Rect.unit (s := S3136x192) (k1_off271 L t) S56x192.size (k1_off271_inb L t h1))).set = _
  rw [View.set_slice_whole]
  ext i
  rw [Rect.mem_set_unit, mem_rows]
  have h0 := off271_0 L t
  constructor
  · intro h
    have a : k1_off271 L t 0 ≤ (i 0).val ∧ (i 0).val < k1_off271 L t 0 + 56 := h 0
    omega
  · intro h a
    match a with
    | ⟨0, _⟩ => show k1_off271 L t 0 ≤ (i 0).val ∧ (i 0).val < k1_off271 L t 0 + 56; omega
    | ⟨1, _⟩ =>
      have e : k1_off271 L t 1 = 0 := by rw [k1_off271_eq]; rfl
      have hi : (i 1).val < 192 := (i 1).isLt
      show k1_off271 L t 1 ≤ (i 1).val ∧ (i 1).val < k1_off271 L t 1 + 192; omega

theorem read_uSl (t : Fin k1_t1_loop.trips) (h1 : k1_cond1 L t = 1#1) (U : Vec F S56x56x192 .f32) :
    (uSl L t h1).view.read (Elt F) U = uwin U (hrow L t.val) := by
  funext j
  have e := off1_ws L t h1
  refine get3_eq (n0 := 56) (n1 := 56) (n2 := 192) U ((Rect.unit (s := S56x56x192) (k1_off1 L t) S7x56x192.size (k1_off1_inb L t h1)).emb j) _ _ _ ?_ ?_ ?_
  · show k1_off1 L t 0 + 1 * (j 0).val = _
    rw [e]; show ws _ + 1 * (j 0).val = _; omega
  · show k1_off1 L t 1 + 1 * (j 1).val = _
    rw [e]; show 0 + 1 * (j 1).val = _; omega
  · show k1_off1 L t 2 + 1 * (j 2).val = _
    rw [e]; show 0 + 1 * (j 2).val = _; omega

theorem read_aSl (t : Fin k1_t1_loop.trips) (h1 : k1_cond1 L t = 1#1) (A : Vec F S56x56x208 .f32) :
    (aSl L t h1).view.read (Elt F) A = arow A (hrow L t.val) := by
  funext j
  have e := k1_off2_eq L t
  have hn : S56x208.numel = S1x56x208.numel := squeezes_S1x56x208_S56x208.numel_eq
  obtain ⟨x, hx⟩ : ∃ x : S1x56x208.Idx, x = Shape.reshapeEquiv hn j := ⟨_, rfl⟩
  have hr := Shape.rowMajor_reshapeEquiv hn j
  rw [← hx, Shape.rowMajor_val_three, Shape.rowMajor_val_two] at hr
  have hr' : ((x 0).val * 56 + (x 1).val) * 208 + (x 2).val = (j 0).val * 208 + (j 1).val := hr
  have b0 : (x 0).val < 1 := (x 0).isLt
  have b2 : (x 2).val < 208 := (x 2).isLt
  have c1 : (j 1).val < 208 := (j 1).isLt
  have h0 : (x 0).val = 0 := by omega
  have h1' : (x 1).val = (j 0).val := by omega
  have h2 : (x 2).val = (j 1).val := by omega
  show A ((Rect.unit (s := S56x56x208) (k1_off2 L t) S1x56x208.size (k1_off2_inb L t h1)).emb (Shape.reshapeEquiv hn j)) = _
  rw [← hx]
  refine get3_eq (n0 := 56) (n1 := 56) (n2 := 208) A ((Rect.unit (s := S56x56x208) (k1_off2 L t) S1x56x208.size (k1_off2_inb L t h1)).emb x) _ _ _ ?_ ?_ ?_
  · show k1_off2 L t 0 + 1 * (x 0).val = _
    rw [e]; show 2 * (L 1).val + (L 0).val + 32 * t.val + 1 * (x 0).val = hrow L t.val; unfold hrow; omega
  · show k1_off2 L t 1 + 1 * (x 1).val = _
    rw [e]; show 0 + 1 * (x 1).val = _; omega
  · show k1_off2 L t 2 + 1 * (x 2).val = _
    rw [e]; show 0 + 1 * (x 2).val = _; omega

/-- What the copy out leaves agrees on the row's places with the aggregate. -/
theorem write_oSl (t : Fin k1_t1_loop.trips) (h1 : k1_cond1 L t = 1#1) (U : Vec F S56x56x192 .f32) (A : Vec F S56x56x208 .f32)
    (f0 : Vec F S3136x192 .f32) (i : S3136x192.Idx) (hi : i ∈ (oSl L t h1).view.set) :
    (oSl L t h1).view.writes (Elt F) f0 [⟨Rect.whole S56x192, rowv (uwin U (hrow L t.val)) (arow A (hrow L t.val))⟩] i = aggv U A i := by
  obtain ⟨x, -, rfl⟩ := Finset.mem_map.mp hi
  refine (View.read_writes_cons_hit_of_coords (oSl L t h1).view f0 (Rect.whole S56x192)
    (rowv (uwin U (hrow L t.val)) (arow A (hrow L t.val))) [] x x (fun a => ?_)).trans ?_
  · show (x a).val = 0 + 1 * (x a).val
    omega
  have e0 : ((oSl L t h1).view.emb x 0).val = 56 * hrow L t.val + (x 0).val := by
    show k1_off271 L t 0 + 1 * (x 0).val = _
    rw [off271_0]; omega
  have e1 : ((oSl L t h1).view.emb x 1).val = (x 1).val := by
    show k1_off271 L t 1 + 1 * (x 1).val = _
    rw [k1_off271_eq]; show 0 + 1 * (x 1).val = _; omega
  have b0 : (x 0).val < 56 := (x 0).isLt
  unfold aggv
  rw [e0, e1, show (56 * hrow L t.val + (x 0).val) / 56 = hrow L t.val by omega, show (56 * hrow L t.val + (x 0).val) % 56 = (x 0).val by omega]
  exact get2_eq (n0 := 56) (n1 := 192) _ x _ _ rfl rfl

/-! ## One row -/

set_option maxRecDepth 10000 in
theorem row_run (t : Fin k1_t1_loop.trips) (h1 : k1_cond1 L t = 1#1) (v4 : BitVec 32)
    (qu qa : PosShare TreeShare) (U : Vec F S56x56x192 .f32) (A : Vec F S56x56x208 .f32) (f0 : Vec F S3136x192 .f32)
    (O : CellTallies nD τ sig (HIx 1)) (hO' : ∀ g, O g none = 0) :
    iprop(levAts (K (F := F)).L (K (F := F)).lev ∗ tools d L qu qa U A O ∗ oLoc d ↦[rows (hrow L t.val)]{fullShare} f0)
      ⊢ wp frame (wpE (defs₀ (F := F)) 𝒱₀ (V d (cV L) (jV L)) none) Set.univ
        (do
          k1_part306 (F := F) L hU (Memref.isWhole_whole _) hA (Memref.isWhole_whole _) hO (Memref.isWhole_whole _) sU (Memref.isWhole_whole _)
            sA (Memref.isWhole_whole _) sO (Memref.isWhole_whole _) cc1_scratch3 cc1_scratch4 cc1_scoped0 t v4 h1
          Prog.lift (.waitDma2 cc1_scoped0.sem sO (oSl L t h1) (Memref.isWhole_whole cc1_scratch2).wordExact (View.wordExact_bits rfl))
          pure (⟨⟩ : PUnit.{1}))
        fun _ => iprop(tools d L qu qa U A O ∗ oLoc d ↦[rows (hrow L t.val)]{fullShare} aggv U A) := by
  unfold tools
  rw [row_eq, ← set_oSl L t h1]
  iintro ⟨#Hlv, ⟨Hu, Ha, ⟨%fu, %fa, %fo, Hsu, Hsa, Hso⟩, H3, H4, H0, ⟨%W, HO⟩⟩, Ho⟩
  ihave Hmw := (show levAts (K (F := F)).L (K (F := F)).lev ⊢ Transfers.MayWaits (V d (cV L) (jV L)) (default : HIx 1) O from
    (K (F := F)).mayWaits_none (thr := V d (cV L) (jV L)) hO') $$ Hlv
  ihave Hu' := (Entails.of_eq (show (uLoc d ↦{qu} U : sProp 𝕄) = ((hU).view.loc (V d (cV L) (jV L)) ↦{qu} U) from rfl)) $$ Hu
  ihave Ha' := (Entails.of_eq (show (aLoc d ↦{qa} A : sProp 𝕄) = ((hA).view.loc (V d (cV L) (jV L)) ↦{qa} A) from rfl)) $$ Ha
  ihave Ho' := (Entails.of_eq (show (oLoc d ↦[(oSl L t h1).view.set]{fullShare} f0 : sProp 𝕄)
    = ((oSl L t h1).view.loc (V d (cV L) (jV L)) ↦[(oSl L t h1).view.set]{fullShare} f0) from rfl)) $$ Ho
  sl_exec
  ihave Hsu := (Entails.of_eq (congrArg (fun f => ((sU).view.loc (V d (cV L) (jV L)) ↦{fullShare} f : sProp 𝕄))
    ((View.write_whole_univ (Val := Elt F) _ _ _).trans (read_uSl L t h1 U)))) $$ Hsu
  ihave Hsa := (Entails.of_eq (congrArg (fun f => ((sA).view.loc (V d (cV L) (jV L)) ↦{fullShare} f : sProp 𝕄))
    ((View.write_whole_univ (Val := Elt F) _ _ _).trans (read_aSl L t h1 A)))) $$ Hsa
  rw [wp_bind]
  iapply (loops d L _ _ (uwin U (hrow L t.val)) (arow A (hrow L t.val)) fo _ _) $$ [Hsu Hsa Hso]
  · isplitl [Hsu]; · iexact Hsu
    isplitl [Hsa] <;> iassumption
  iintro ⟨Hsu, Hsa, Hso⟩
  rw [← wp_bind]
  sl_exec
  sl_step
  isplitr [Ho']
  · isplitl [Hu']; · iexact Hu'
    isplitl [Ha']; · iexact Ha'
    isplitl [Hsu Hsa Hso]
    · iexists _; iexists _; iexists _
      isplitl [Hsu]; · iexact Hsu
      isplitl [Hsa] <;> iassumption
    isplitl [H3]; · iexact H3
    isplitl [H4]; · iexact H4
    isplitl [H0]; · iexact H0
    iexists _; iexact HO
  iapply (Entails.of_eq (pointsTo_congr fun i hi => write_oSl L t h1 U A f0 i hi)) $$ Ho'

/-! ## The tile's task -/

/-- A tile's places of the result, those of its first trip and those of its second, as they stand before trip `n`. -/
def outs (U : Vec F S56x56x192 .f32) (A : Vec F S56x56x208 .f32) (f0 : Vec F S3136x192 .f32) (n : ℕ) : sProp 𝕄 :=
  iprop((oLoc d ↦[rows (hrow L 0)]{fullShare} (if 0 < n then aggv U A else f0))
    ∗ (oLoc d ↦[rows (hrow L 1)]{fullShare} (if 1 < n then aggv U A else f0)))

/-- Row numbers of 56 and more name no place. -/
theorem rows_empty {n : ℕ} (h : ¬ n < 56) : rows n = ∅ := by
  ext i
  have hi : (i 0).val < 3136 := (i 0).isLt
  simp only [mem_rows, Finset.notMem_empty, iff_false]
  omega

theorem rows_any {n : ℕ} (h : ¬ n < 56) (f g : Vec F S3136x192 .f32) :
    (oLoc d ↦[rows n]{fullShare} f : sProp 𝕄) = oLoc d ↦[rows n]{fullShare} g :=
  pointsTo_congr fun i hi => by rw [rows_empty h] at hi; exact absurd hi (Finset.notMem_empty i)

/-- One trip of the tile's loop: its row, if there is one. -/
abbrev tripBody (t : Fin k1_t1_loop.trips) (v4 : BitVec 32) : Prog (TpuEff nD τ sig (Elt F) Λ₀ (.scVector (cV L) (jV L))) PUnit.{1} :=
  do
    if h1 : k1_cond1 L t = 1#1 then do
      k1_part306 (F := F) L hU (Memref.isWhole_whole _) hA (Memref.isWhole_whole _) hO (Memref.isWhole_whole _) sU (Memref.isWhole_whole _)
        sA (Memref.isWhole_whole _) sO (Memref.isWhole_whole _) cc1_scratch3 cc1_scratch4 cc1_scoped0 t v4 h1
      Prog.lift (.waitDma2 cc1_scoped0.sem sO (oSl L t h1) (Memref.isWhole_whole cc1_scratch2).wordExact (View.wordExact_bits rfl))
      pure (⟨⟩ : PUnit.{1})
    else do
      pure (⟨⟩ : PUnit.{1})
    pure (⟨⟩ : PUnit.{1})

theorem trip_body (t : Fin k1_t1_loop.trips) (v4 : BitVec 32)
    (qu qa : PosShare TreeShare) (U : Vec F S56x56x192 .f32) (A : Vec F S56x56x208 .f32) (f0 : Vec F S3136x192 .f32)
    (O : CellTallies nD τ sig (HIx 1)) (hO' : ∀ g, O g none = 0) :
    iprop(levAts (K (F := F)).L (K (F := F)).lev ∗ tools d L qu qa U A O ∗ oLoc d ↦[rows (hrow L t.val)]{fullShare} f0)
      ⊢ wp frame (wpE (defs₀ (F := F)) 𝒱₀ (V d (cV L) (jV L)) none) Set.univ (tripBody L t v4)
        fun _ => iprop(tools d L qu qa U A O ∗ oLoc d ↦[rows (hrow L t.val)]{fullShare} aggv U A) := by
  unfold tripBody
  by_cases h1 : k1_cond1 L t = 1#1
  · rw [dif_pos h1]
    have key := row_run d L t h1 v4 qu qa U A f0 O hO'
    simp only [wp_bind, wp_pure] at key ⊢
    exact key
  · rw [dif_neg h1, rows_any d (fun h => h1 ((cond_iff L t).mpr h)) f0 (aggv U A)]
    simp only [wp_bind, wp_pure]
    iintro ⟨-, H⟩; imodintro; iexact H

theorem trips1 : k1_t1_loop.trips = 2 := by decide

theorem trip_step (t : Fin k1_t1_loop.trips) (v4 : BitVec 32)
    (qu qa : PosShare TreeShare) (U : Vec F S56x56x192 .f32) (A : Vec F S56x56x208 .f32) (f0 : Vec F S3136x192 .f32)
    (O : CellTallies nD τ sig (HIx 1)) (hO' : ∀ g, O g none = 0) :
    iprop(levAts (K (F := F)).L (K (F := F)).lev ∗ tools d L qu qa U A O ∗ outs d L U A f0 t.val)
      ⊢ wp frame (wpE (defs₀ (F := F)) 𝒱₀ (V d (cV L) (jV L)) none) Set.univ (tripBody L t v4)
        fun _ => iprop(levAts (K (F := F)).L (K (F := F)).lev ∗ tools d L qu qa U A O ∗ outs d L U A f0 (t.val + 1)) := by
  unfold outs
  have key := trip_body d L t v4 qu qa U A f0 O hO'
  have ht : t.val = 0 ∨ t.val = 1 := by
    have h := t.isLt.trans_eq trips1
    omega
  rcases ht with h | h
  · rw [h] at key ⊢
    rw [if_neg (by omega), if_neg (by omega), if_pos (by omega), if_neg (by omega)]
    iintro ⟨#Hl, Ht, H0, H1⟩
    iapply (wp_wand_r _ _ _)
    isplitl [Ht H0]
    · iapply key
      isplitr; · iexact Hl
      isplitl [Ht] <;> iassumption
    iintro %_ ⟨Ht, H0⟩
    isplitr; · iexact Hl
    isplitl [Ht]; · iexact Ht
    isplitl [H0] <;> iassumption
  · rw [h] at key ⊢
    rw [if_pos (by omega), if_neg (by omega), if_pos (by omega), if_pos (by omega)]
    iintro ⟨#Hl, Ht, H0, H1⟩
    iapply (wp_wand_r _ _ _)
    isplitl [Ht H1]
    · iapply key
      isplitr; · iexact Hl
      isplitl [Ht] <;> iassumption
    iintro %_ ⟨Ht, H1⟩
    isplitr; · iexact Hl
    isplitl [Ht]; · iexact Ht
    isplitl [H0] <;> iassumption

theorem task_run (qu qa : PosShare TreeShare) (U : Vec F S56x56x192 .f32) (A : Vec F S56x56x208 .f32) (f0 : Vec F S3136x192 .f32)
    (O : CellTallies nD τ sig (HIx 1)) (hO' : ∀ g, O g none = 0) :
    iprop(levAts (K (F := F)).L (K (F := F)).lev ∗ tools d L qu qa U A O ∗ outs d L U A f0 0)
      ⊢ wp frame (wpE (defs₀ (F := F)) 𝒱₀ (V d (cV L) (jV L)) none) Set.univ
        (cc1__agg (F := F) L hU (Memref.isWhole_whole _) hA (Memref.isWhole_whole _) hO (Memref.isWhole_whole _) sU (Memref.isWhole_whole _)
            sA (Memref.isWhole_whole _) sO (Memref.isWhole_whole _) cc1_scratch3 cc1_scratch4 cc1_scoped0)
        fun _ => iprop(tools d L qu qa U A O ∗ outs d L U A f0 2) := by
  unfold cc1__agg
  iintro H
  iapply (Scf.wp_for_bind frame (wpE (defs₀ (F := F)) 𝒱₀ (V d (cV L) (jV L)) none) Set.univ k1_t1_loop.lb k1_t1_loop.ub k1_t1_loop.st
    k1_t1_ok ⟨⟩ (fun t _ => tripBody L t _)
    (fun n _ => iprop(levAts (K (F := F)).L (K (F := F)).lev ∗ tools d L qu qa U A O ∗ outs d L U A f0 n))
    (fun t _ => trip_step d L t _ qu qa U A f0 O hO')) $$ H
  iintro %_ ⟨-, H⟩
  rw [show Scf.trips k1_t1_loop.lb k1_t1_loop.ub k1_t1_loop.st = 2 from trips1]
  rw [wp_pure]
  imodintro
  iexact H

end Cert.KernelIdeal.Run
-- ==== Proof.Split.lean ====
/-
  The SparseCore call's handshakes: what the call takes and hands back, how it is dealt among the two SparseCores and
  their tiles, and every tile's obligation.
-/
module

public import proofs.«01_k».proof.Proof.Tile

@[expose] public section

noncomputable section

namespace Cert.KernelIdeal.Run

open Cert.KernelIdeal Cert.KernelIdeal.Gen Cert.KernelIdeal.Trip

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-! ## The result's places by SparseCore and by tile -/

/-- The places of the result that SparseCore `c` fills, -/
def coreSet (c : Fin 2) : Finset S3136x192.Idx := Finset.univ.filter fun i => (i 0).val / 56 % 2 = c.val
/-- and those that its tile `s` fills. -/
def tileSet (c : Fin 2) (s : Fin 16) : Finset S3136x192.Idx := Finset.univ.filter fun i => (i 0).val / 56 % 32 = 2 * s.val + c.val

theorem mem_coreSet {c : Fin 2} {i : S3136x192.Idx} : i ∈ coreSet c ↔ (i 0).val / 56 % 2 = c.val := by
  unfold coreSet; rw [Finset.mem_filter]; exact ⟨fun h => h.2, fun h => ⟨Finset.mem_univ _, h⟩⟩
theorem mem_tileSet {c : Fin 2} {s : Fin 16} {i : S3136x192.Idx} : i ∈ tileSet c s ↔ (i 0).val / 56 % 32 = 2 * s.val + c.val := by
  unfold tileSet; rw [Finset.mem_filter]; exact ⟨fun h => h.2, fun h => ⟨Finset.mem_univ _, h⟩⟩

theorem cores_disjoint : ∀ c ∈ (Finset.univ : Finset (Fin 2)), ∀ c' ∈ (Finset.univ : Finset (Fin 2)), c ≠ c' → Disjoint (coreSet c) (coreSet c') :=
  fun c _ c' _ h => Finset.disjoint_left.mpr fun i hi hi' => h (Fin.ext ((mem_coreSet.mp hi).symm.trans (mem_coreSet.mp hi')))
theorem cores_cover : (Finset.univ : Finset (Fin 2)).biUnion coreSet = Finset.univ := by
  ext i
  simp only [Finset.mem_biUnion, Finset.mem_univ, true_and, iff_true]
  exact ⟨⟨(i 0).val / 56 % 2, Nat.mod_lt _ (by decide)⟩, mem_coreSet.mpr rfl⟩
theorem tiles_disjoint (c : Fin 2) : ∀ s ∈ (Finset.univ : Finset (Fin 16)), ∀ s' ∈ (Finset.univ : Finset (Fin 16)), s ≠ s' →
    Disjoint (tileSet c s) (tileSet c s') :=
  fun s _ s' _ h => Finset.disjoint_left.mpr fun i hi hi' => h (Fin.ext (by
    have := (mem_tileSet.mp hi).symm.trans (mem_tileSet.mp hi'); omega))
theorem tiles_cover (c : Fin 2) : (Finset.univ : Finset (Fin 16)).biUnion (tileSet c) = coreSet c := by
  ext i
  have hc := c.isLt
  simp only [Finset.mem_biUnion, Finset.mem_univ, true_and, mem_coreSet, mem_tileSet]
  constructor
  · rintro ⟨s, h⟩; omega
  · intro h
    exact ⟨⟨(i 0).val / 56 % 32 / 2, by omega⟩, by show _ = 2 * ((i 0).val / 56 % 32 / 2) + c.val; omega⟩

variable (d : Dev nD)

theorem out_cores (f : Vec F S3136x192 .f32) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]; try rfl
theorem out_tiles (c : Fin 2) (f : Vec F S3136x192 .f32) :
    (oLoc d ↦[coreSet c]{fullShare} f : sProp 𝕄) = bigSep Finset.univ fun s : Fin 16 => oLoc d ↦[tileSet c s]{fullShare} f := by
  rw [← pointsTo_biUnion Finset.univ (ℓ := oLoc d) (tileSet c) (tiles_disjoint c), tiles_cover]

theorem bound_0 : grid1.bound 0 = 2 := rfl
theorem bound_1 : grid1.bound 1 = 16 := rfl

/-- A tile's places are those of its two trips. -/
theorem out_trips (c : Fin (grid1.bound 0)) (s : Fin (grid1.bound 1)) (f : Vec F S3136x192 .f32) :
    (oLoc d ↦[tileSet (Fin.cast bound_0 c) (Fin.cast bound_1 s)]{fullShare} f : sProp 𝕄)
      = iprop((oLoc d ↦[rows (hrow (coordsV c s) 0)]{fullShare} f) ∗ (oLoc d ↦[rows (hrow (coordsV c s) 1)]{fullShare} f)) := by
  have hd : Disjoint (rows (hrow (coordsV c s) 0)) (rows (hrow (coordsV c s) 1)) :=
    Finset.disjoint_left.mpr fun i hi hi' => by
      have := (mem_rows.mp hi).symm.trans (mem_rows.mp hi'); unfold hrow at this; omega
  have hu : tileSet (Fin.cast bound_0 c) (Fin.cast bound_1 s) = rows (hrow (coordsV c s) 0) ∪ rows (hrow (coordsV c s) 1) := by
    ext i
    have hi : (i 0).val < 3136 := (i 0).isLt
    have hc : c.val < 2 := c.isLt
    have hs : s.val < 16 := s.isLt
    rw [Finset.mem_union, mem_tileSet, mem_rows, mem_rows]
    show (i 0).val / 56 % 32 = 2 * s.val + c.val ↔ (i 0).val / 56 = 2 * s.val + c.val + 32 * 0 ∨ (i 0).val / 56 = 2 * s.val + c.val + 32 * 1
    omega
  rw [hu]
  exact BI.Entails.antisymm (pointsTo_union hd).1 (pointsTo_union hd).2

/-! ## What the handshakes carry -/

variable (U : Dev nD → Vec F S56x56x192 .f32) (A : Dev nD → Vec F S56x56x208 .f32) (f0 : Dev nD → Vec F S3136x192 .f32)

/-- The share of an operand that SparseCore `c` reads with, -/
def qc (c : Fin 2) : PosShare TreeShare := Transfers.dealOf fullShare Finset.univ c
/-- and the share of its tile `s`. -/
def qt (c : Fin 2) (s : Fin 16) : PosShare TreeShare := Transfers.dealOf (qc c) Finset.univ s

theorem core_bound : (K (F := F)).nCore 0 = grid1.bound 0 := rfl
theorem sub_bound : (K (F := F)).nSub 0 = grid1.bound 1 := rfl
theorem core_two : (K (F := F)).nCore 0 = 2 := rfl
theorem sub_sixteen : (K (F := F)).nSub 0 = 16 := rfl

/-- A SparseCore's part: the operands to read and its places of the result at contents `f`. -/
abbrev corePart (f : Vec F S3136x192 .f32) (c : Fin 2) : sProp 𝕄 :=
  iprop((uLoc d ↦{qc c} U d) ∗ (aLoc d ↦{qc c} A d) ∗ (oLoc d ↦[coreSet c]{fullShare} f))
/-- A tile's part. -/
abbrev tilePart (f : Vec F S3136x192 .f32) (c : Fin 2) (s : Fin 16) : sProp 𝕄 :=
  iprop((uLoc d ↦{qt c s} U d) ∗ (aLoc d ↦{qt c s} A d) ∗ (oLoc d ↦[tileSet c s]{fullShare} f))

/-- The call takes the two operands and the result's array, and hands them back, the result at the aggregate. -/
def P : (K (F := F)).Pay (nD := nD) (Val := Elt F) (Name := ℕ) (U := UU) where
  st := fun q d c => match q with | 0 => corePart d U A (f0 d) (Fin.cast core_two c)
  dn := fun q d c => match q with | 0 => corePart d U A (aggv (U d) (A d)) (Fin.cast core_two c)
  go := fun q d c i => match q with | 0 => tilePart d U A (f0 d) (Fin.cast core_two c) (Fin.cast sub_sixteen i)
  td := fun q d c i => match q with | 0 => tilePart d U A (aggv (U d) (A d)) (Fin.cast core_two c) (Fin.cast sub_sixteen i)
  x := fun _ _ => iprop(emp)

instance P_storable : (P U A f0).IsStorable where
  st q d c := match q with
    | 0 => (inferInstance : BI.Storable (upEmb : UEmb _ 𝕄) (corePart d U A (f0 d) (Fin.cast core_two c)))
  dn q d c := match q with
    | 0 => (inferInstance : BI.Storable (upEmb : UEmb _ 𝕄) (corePart d U A (aggv (U d) (A d)) (Fin.cast core_two c)))
  go q d c i := match q with
    | 0 => (inferInstance : BI.Storable (upEmb : UEmb _ 𝕄) (tilePart d U A (f0 d) (Fin.cast core_two c) (Fin.cast sub_sixteen i)))
  td q d c i := match q with
    | 0 => (inferInstance : BI.Storable (upEmb : UEmb _ 𝕄) (tilePart d U A (aggv (U d) (A d)) (Fin.cast core_two c) (Fin.cast sub_sixteen i)))

theorem core_split (f : Vec F S3136x192 .f32) (c : Fin 2) :
    corePart d U A f c = bigSep Finset.univ fun s : Fin 16 => tilePart d U A f c s := by
  unfold corePart tilePart qt
  rw [bigSep_sep', bigSep_sep', ← Transfers.pointsTo_deal Finset.univ Finset.univ_nonempty, ← Transfers.pointsTo_deal Finset.univ Finset.univ_nonempty,
    ← out_tiles]

theorem vecSplit : (K (F := F)).VecSplit' (P U A f0) 0 := by
  intro d c
  show corePart d U A (f0 d) (Fin.cast core_two c) ⊢ |={Set.univ}=> iprop(
      (bigSep Finset.univ fun i : Fin ((K (F := F)).nSub 0) => tilePart d U A (f0 d) (Fin.cast core_two c) (Fin.cast sub_sixteen i))
      ∗ ((bigSep Finset.univ fun i : Fin ((K (F := F)).nSub 0) => tilePart d U A (aggv (U d) (A d)) (Fin.cast core_two c) (Fin.cast sub_sixteen i))
          -∗ corePart d U A (aggv (U d) (A d)) (Fin.cast core_two c)))
  rw [core_split, core_split]
  iintro H; imodintro
  isplitl [H]; · iexact H
  iintro H; iexact H

theorem whole_split (f : Vec F S3136x192 .f32) :
    (bigSep Finset.univ fun c : Fin 2 => corePart d U A f c)
      = iprop((uLoc d ↦{fullShare} U d) ∗ (aLoc d ↦{fullShare} A d) ∗ (oLoc d ↦{fullShare} f)) := by
  unfold corePart qc
  rw [bigSep_sep', bigSep_sep', ← Transfers.pointsTo_deal Finset.univ Finset.univ_nonempty, ← Transfers.pointsTo_deal Finset.univ Finset.univ_nonempty,
    ← out_cores]

theorem st0_eq :
    (bigSep Finset.univ fun c : Fin ((K (F := F)).nCore 0) => (P U A f0).st 0 d c)
      = iprop((uLoc d ↦{fullShare} U d) ∗ (aLoc d ↦{fullShare} A d) ∗ (oLoc d ↦{fullShare} f0 d)) :=
  whole_split d U A (f0 d)
theorem dn0_eq :
    (bigSep Finset.univ fun c : Fin ((K (F := F)).nCore 0) => (P U A f0).dn 0 d c)
      = iprop((uLoc d ↦{fullShare} U d) ∗ (aLoc d ↦{fullShare} A d) ∗ (oLoc d ↦{fullShare} aggv (U d) (A d))) :=
  whole_split d U A (aggv (U d) (A d))

/-! ## A tile's obligation -/

section Tile
variable (L : grid1.Coords)

theorem ownSems0_V :
    (ownSems0 (V d (cV L) (jV L)) : sProp 𝕄)
      = iprop(semVal (cell3 d L) 0 ∗ semVal (cell4 d L) 0 ∗ semVal (cell0 d L) 0
          ∗ bigSep ((((ownCells (V d (cV L) (jV L))).erase (cell3 d L)).erase (cell4 d L)).erase (cell0 d L)) fun g => semVal g 0) := by
  unfold SparseCore.Cfg.ownSems0
  rw [SparseCore.bigSep_erase' ((mem_ownCells (g := cell3 d L)).mpr ⟨rfl, by
      show (SemLoc.dma cc1_scratch3.sem : SemLoc sig).isScoped .scVector = true; decide⟩),
    SparseCore.bigSep_erase' (Finset.mem_erase.mpr ⟨by simp [cell3, cell4]; decide, (mem_ownCells (g := cell4 d L)).mpr ⟨rfl, by
      show (SemLoc.dma cc1_scratch4.sem : SemLoc sig).isScoped .scVector = true; decide⟩⟩),
    SparseCore.bigSep_erase' (Finset.mem_erase.mpr ⟨by simp [cell4, cell0]; decide, Finset.mem_erase.mpr ⟨by simp [cell3, cell0]; decide,
      (mem_ownCells (g := cell0 d L)).mpr ⟨rfl, by show (SemLoc.dma cc1_scoped0.sem : SemLoc sig).isScoped .scVector = true; decide⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

end Tile

theorem tile_body (c : Fin (grid1.bound 0)) (s : Fin (grid1.bound 1)) (O : CellTallies nD τ sig (HIx 1)) (W : Waits sig (HIx 1)) (hO : ∀ g, O g none = 0) :
    iprop(levAts (K (F := F)).L (K (F := F)).lev ∗ emp
        ∗ tilePart d U A (f0 d) (Fin.cast bound_0 c) (Fin.cast bound_1 s)
        ∗ scopedBufs (V d (cV (coordsV c s)) (jV (coordsV c s))) ∗ scopedSems0 (V d (cV (coordsV c s)) (jV (coordsV c s)))
        ∗ owes (V d (cV (coordsV c s)) (jV (coordsV c s))) O W)
      ⊢ wp frame (wpE (defs₀ (F := F)) 𝒱₀ (V d (cV (coordsV c s)) (jV (coordsV c s))) none) Set.univ
          (cc1__agg (F := F) (coordsV c s) (Memref.whole main_v8_scv) (Memref.isWhole_whole _) (Memref.whole main_v5_scv) (Memref.isWhole_whole _)
            (Memref.whole main_v9_scv) (Memref.isWhole_whole _) (Memref.whole cc1_scratch0) (Memref.isWhole_whole _)
            (Memref.whole cc1_scratch1) (Memref.isWhole_whole _) (Memref.whole cc1_scratch2) (Memref.isWhole_whole _) cc1_scratch3 cc1_scratch4 cc1_scoped0)
          fun _ => iprop(tilePart d U A (aggv (U d) (A d)) (Fin.cast bound_0 c) (Fin.cast bound_1 s)
            ∗ scopedBufs (V d (cV (coordsV c s)) (jV (coordsV c s))) ∗ scopedSems0 (V d (cV (coordsV c s)) (jV (coordsV c s)))
            ∗ ∃ W', ⌜∀ p ∈ W', p ∈ W ∨ p.2 = none ∨ p.2 = some (0 : Fin 1)⌝ ∗ owes (V d (cV (coordsV c s)) (jV (coordsV c s))) O W') := by
  unfold tilePart
  rw [(K (F := F)).scopedBufs_V facts d (cV (coordsV c s)) (jV (coordsV c s)),
    SparseCore.Cfg.scopedSems0_V (Val := Elt F) d (cV (coordsV c s)) (jV (coordsV c s)), ownSems0_V, ownBufs_V, out_trips, out_trips]
  have key := task_run d (coordsV c s) (qt (Fin.cast bound_0 c) (Fin.cast bound_1 s)) (qt (Fin.cast bound_0 c) (Fin.cast bound_1 s)) (U d) (A d) (f0 d) O hO
  unfold tools outs at key
  rw [if_neg (by omega), if_neg (by omega), if_pos (by omega), if_pos (by omega)] at key
  iintro ⟨#Hlv, -, ⟨Hu, Ha, Ho⟩, ⟨⟨%fs, Hs⟩, ⟨%fc, Hc⟩, ⟨%fu, Hf⟩, Hbufs⟩, ⟨H3, H4, H0, Hsems⟩, HO⟩
  iapply (wp_wand_r _ _ _)
  isplitl [Hu Ha Ho Hs Hc Hf H3 H4 H0 HO]
  · iapply key
    isplitr; · iexact Hlv
    isplitr [Ho]
    · isplitl [Hu]; · iexact Hu
      isplitl [Ha]; · iexact Ha
      isplitl [Hs Hc Hf]
      · iexists fs; iexists fc; iexists fu
        isplitl [Hs]; · iexact Hs
        isplitl [Hc]; · iexact Hc
        iexact Hf
      isplitl [H3]; · iexact H3
      isplitl [H4]; · iexact H4
      isplitl [H0]; · iexact H0
      iexists W; iexact HO
    iexact Ho
  iintro %_ ⟨⟨Hu, Ha, ⟨%gs, %gc, %gf, Hs, Hc, Hf⟩, H3, H4, H0, ⟨%W', HO⟩⟩, Ho⟩
  isplitl [Hu Ha Ho]
  · isplitl [Hu]; · iexact Hu
    isplitl [Ha] <;> iassumption
  isplitl [Hs Hc Hf Hbufs]
  · isplitl [Hs]; · iexists _; iexact Hs
    isplitl [Hc]; · iexists _; iexact Hc
    isplitl [Hf]; · iexists _; iexact Hf
    iexact Hbufs
  isplitl [H3 H4 H0 Hsems]
  · isplitl [H3]; · iexact H3
    isplitl [H4]; · iexact H4
    isplitl [H0]; · iexact H0
    iexact Hsems
  iexists W'; isplitr
  swap; · iexact HO
  ipureintro; intro p _
  rcases p.2 with _ | q
  · exact .inr (.inl rfl)
  · exact .inr (.inr (congrArg some (Subsingleton.elim q 0)))

theorem defs₀_vector (c : Fin τ.nSC) (s : Fin τ.nSub) :
    defs₀ (F := F) (.scVector c s) 1 ()
      = SparseCore.onTile hcore1 hsub1 (fun c s => cc1__agg (F := F) (coordsV c s) (Memref.whole main_v8_scv) (Memref.isWhole_whole _)
          (Memref.whole main_v5_scv) (Memref.isWhole_whole _) (Memref.whole main_v9_scv) (Memref.isWhole_whole _) (Memref.whole cc1_scratch0) (Memref.isWhole_whole _)
          (Memref.whole cc1_scratch1) (Memref.isWhole_whole _) (Memref.whole cc1_scratch2) (Memref.isWhole_whole _) cc1_scratch3 cc1_scratch4 cc1_scoped0) ⟨⟩ c s := rfl

theorem tileObl : (K (F := F)).TileObl (D (F := F)) 𝒱 (P U A f0) v₀ 0 := by
  intro d c i O W hO _ _
  simp only [show (P U A f0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d U A f0 ⟨_, hci.1⟩ ⟨_, hci.2⟩ O W hO

end Cert.KernelIdeal.Run
-- ==== Proof.Main.lean ====
/-
  `@main` on the TensorCore: the host's operations by the contents they leave, the two TensorCore calls and the
  SparseCore call between them, and the program's run from there.
-/
module

public import proofs.«01_k».proof.Proof.Calls
public import proofs.«01_k».proof.Proof.Split

@[expose] public section

noncomputable section

namespace Cert.KernelIdeal.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host's operations -/

/-- Before the first call: its operands, and the weights laid out by rows and padded. -/
def opsA : List (HloOp τ sig (Elt F)) :=
  [StableHlo.reshape main_arg0 main_v0 (rfl : (.f32 : EltTy) = .f32) shapeCasts_S1x56x56x192_S3136x192,
   StableHlo.reshape main_arg2 main_v1 (rfl : (.f32 : EltTy) = .f32) shapeCasts_S1x56x56_S3136x1,
   StableHlo.reshape main_arg1 main_v2 (rfl : (.f32 : EltTy) = .f32) shapeCasts_S1x4x56x56x49_S4x56x56x49,
   StableHlo.unary main_v2 main_v3 ((transpose S56x56x4x49 [1, 2, 0, 3] · transposes_S4x56x56x49_S56x56x4x49_1_2_0_3) :
     (⟨S4x56x56x49, .f32⟩ : BufTy).Contents (Elt F) → (⟨S56x56x4x49, .f32⟩ : BufTy).Contents (Elt F)),
   StableHlo.reshape main_v3 main_v4 (rfl : (.f32 : EltTy) = .f32) shapeCasts_S56x56x4x49_S56x56x196,
   StableHlo.nullary main_c (constantI S_ 32 0#32),
   StableHlo.TRef.unary (.of main_c : StableHlo.TRef sig ⟨S_, .i32⟩) main_call0.v0 (sitofp .f32),
   StableHlo.TRef.binary (.of main_v4 : StableHlo.TRef sig ⟨S56x56x196, .f32⟩) main_call0.v0 main_call0.v1
     (fun x v => pad S56x56x208 ![0, 0, 0] ![0, 0, 12] ![0, 0, 0] x v pads_S56x56x196_S56x56x208_000_000_0120 h_S_),
   StableHlo.reshape main_arg4 main_v6 (rfl : (.f32 : EltTy) = .f32) shapeCasts_S192_S1x192]
/-- Between the first call and the SparseCore's: the first's result by rows. -/
def opsB : List (HloOp τ sig (Elt F)) :=
  [StableHlo.reshape main_v7 main_v8 (rfl : (.f32 : EltTy) = .f32) shapeCasts_S3136x192_S56x56x192]
/-- Before the last call: its bias. -/
def opsC : List (HloOp τ sig (Elt F)) :=
  [StableHlo.reshape main_arg6 main_v10 (rfl : (.f32 : EltTy) = .f32) shapeCasts_S192_S1x192]
/-- After it: the result. -/
def opsD : List (HloOp τ sig (Elt F)) :=
  [StableHlo.reshape main_v11 main_v12 (rfl : (.f32 : EltTy) = .f32) shapeCasts_S3136x192_S1x56x56x192]

theorem main_eq (d : Dev nD) :
    main (F := F) d = (StableHlo.seq opsA >>= fun _ => SparseCore.liftProg (.op (.customCall (Pipeline.entry 0) ()) .ret) >>= fun _ =>
      StableHlo.seq opsB >>= fun _ => (K (F := F)).run d 0 >>= fun _ => StableHlo.seq opsC >>= fun _ =>
      SparseCore.liftProg (.op (.customCall (Pipeline.entry 1) ()) .ret) >>= fun _ => StableHlo.seq opsD >>= fun _ => pure ⟨⟩) := rfl

/-! ## The buffers' contents along `@main` -/

/-- The TensorCore's unscoped buffers. -/
def hostBufs : Finset (DevRef τ sig) := (StableHlo.tcRefs τ sig).filter fun b => ¬ b.isScoped

theorem mem_bufs (b : Ref sig .tc) (h : b.isScoped = false) : Proc.devRef (τ := τ) .tc b ∈ hostBufs :=
  Finset.mem_filter.mpr ⟨StableHlo.devRef_mem_tcRefs b, by show ¬ (b.isScoped = true); rw [h]; decide⟩

theorem hostBufs_held (d : Dev nD) (W : Valuation τ sig (Elt F)) :
    (unscopedBufs d (fun b => W (Proc.devRef .tc b)) : sProp 𝕄) = StableHlo.held (T d) hostBufs W := by
  unfold unscopedBufs StableHlo.held hostBufs StableHlo.tcRefs
  rw [Finset.filter_map, bigSep_map]
  rfl

theorem one_sub {x : Ref sig .tc} (hx : x.isScoped = false) : ({Proc.devRef .tc x} : Finset (DevRef τ sig)) ⊆ hostBufs :=
  Finset.singleton_subset_iff.mpr (mem_bufs x hx)
theorem two_sub {x y : Ref sig .tc} (hx : x.isScoped = false) (hy : y.isScoped = false) :
    ({Proc.devRef .tc x, Proc.devRef .tc y} : Finset (DevRef τ sig)) ⊆ hostBufs :=
  Finset.insert_subset_iff.mpr ⟨mem_bufs x hx, one_sub hy⟩
theorem three_sub {x y z : Ref sig .tc} (hx : x.isScoped = false) (hy : y.isScoped = false) (hz : z.isScoped = false) :
    ({Proc.devRef .tc x, Proc.devRef .tc y, Proc.devRef .tc z} : Finset (DevRef τ sig)) ⊆ hostBufs :=
  Finset.insert_subset_iff.mpr ⟨mem_bufs x hx, two_sub hy hz⟩

theorem opsA_sub : ∀ op ∈ (opsA : List (HloOp τ sig (Elt F))), op.bufs ⊆ hostBufs := by
  refine List.forall_iff_forall_mem.mp ?_
  exact ⟨two_sub (x := main_arg0) (y := main_v0) rfl rfl, two_sub (x := main_arg2) (y := main_v1) rfl rfl, two_sub (x := main_arg1) (y := main_v2) rfl rfl,
    two_sub (x := main_v2) (y := main_v3) rfl rfl, two_sub (x := main_v3) (y := main_v4) rfl rfl, one_sub (x := main_c) rfl,
    two_sub (x := main_c) (y := main_call0.v0.ref) rfl rfl, three_sub (x := main_v4) (y := main_call0.v0.ref) (z := main_v5) rfl rfl rfl,
    two_sub (x := main_arg4) (y := main_v6) rfl rfl⟩
theorem opsB_sub : ∀ op ∈ (opsB : List (HloOp τ sig (Elt F))), op.bufs ⊆ hostBufs := by
  intro op h; rcases List.mem_singleton.mp h with rfl; exact two_sub (x := main_v7) (y := main_v8) rfl rfl
theorem opsC_sub : ∀ op ∈ (opsC : List (HloOp τ sig (Elt F))), op.bufs ⊆ hostBufs := by
  intro op h; rcases List.mem_singleton.mp h with rfl; exact two_sub (x := main_arg6) (y := main_v10) rfl rfl
theorem opsD_sub : ∀ op ∈ (opsD : List (HloOp τ sig (Elt F))), op.bufs ⊆ hostBufs := by
  intro op h; rcases List.mem_singleton.mp h with rfl; exact two_sub (x := main_v11) (y := main_v12) rfl rfl
theorem opsA_fresh : ∀ op ∈ (opsA : List (HloOp τ sig (Elt F))), op.fresh = ∅ := by
  refine List.forall_iff_forall_mem.mp ?_
  refine ⟨?_, ?_, ?_, ?_, ?_, ?_, ?_, ?_, ?_⟩ <;> rfl
theorem opsB_fresh : ∀ op ∈ (opsB : List (HloOp τ sig (Elt F))), op.fresh = ∅ := by
  intro op h; rcases List.mem_singleton.mp h with rfl; rfl
theorem opsC_fresh : ∀ op ∈ (opsC : List (HloOp τ sig (Elt F))), op.fresh = ∅ := by
  intro op h; rcases List.mem_singleton.mp h with rfl; rfl
theorem opsD_fresh : ∀ op ∈ (opsD : List (HloOp τ sig (Elt F))), op.fresh = ∅ := by
  intro op h; rcases List.mem_singleton.mp h with rfl; rfl

/-- A valuation as the TensorCore reads it. -/
abbrev tcv (W : Dev nD → Valuation τ sig (Elt F)) (c : Dev nD) (b : Ref sig .tc) : Buf (Elt F) ((c : Thread nD τ).loc b) :=
  W c (Proc.devRef .tc b)

/-- A valuation with TensorCore buffer `b` at `f`. -/
def setAt (W : Valuation τ sig (Elt F)) (b : Ref sig .tc) (f : (Proc.devRef (τ := τ) .tc b).ty.Contents (Elt F)) : Valuation τ sig (Elt F) :=
  Function.update W (Proc.devRef .tc b) f

theorem setAt_self (W : Valuation τ sig (Elt F)) (b : Ref sig .tc) (f) : setAt W b f (Proc.devRef .tc b) = f :=
  Function.update_self _ _ _
theorem setAt_ne (W : Valuation τ sig (Elt F)) (b : Ref sig .tc) (f) {b' : Ref sig .tc} (h : b' ≠ b) :
    setAt W b f (Proc.devRef .tc b') = W (Proc.devRef .tc b') :=
  Function.update_of_ne (fun e => h (Proc.devRef_injective _ e)) _ _

variable (m : (ℓ : Loc nD τ sig) → Buf (Elt F) ℓ) (ρ : Dev nD → PrngReg)

/-- The contents at the launch, -/
def W0 (d : Dev nD) : Valuation τ sig (Elt F) := fun b => m (d, b)
/-- before the first call, -/
def W1 (d : Dev nD) : Valuation τ sig (Elt F) := StableHlo.after opsA (W0 m d)
/-- after it, -/
def W2 (d : Dev nD) : Valuation τ sig (Elt F) := setAt (W1 m d) main_v7 (uAt (tcv (W1 m)) d)
/-- before the SparseCore's call, -/
def W3 (d : Dev nD) : Valuation τ sig (Elt F) := StableHlo.after opsB (W2 m d)
/-- the values it aggregates, -/
def Uop (d : Dev nD) : Vec F S56x56x192 .f32 := W3 m d (Proc.devRef .tc main_v8)
/-- the weights it aggregates with, -/
def Aop (d : Dev nD) : Vec F S56x56x208 .f32 := W3 m d (Proc.devRef .tc main_v5)
/-- and what its result's array held; -/
def Oop (d : Dev nD) : Vec F S3136x192 .f32 := W3 m d (Proc.devRef .tc main_v9)
/-- the contents after it, -/
def W4 (d : Dev nD) : Valuation τ sig (Elt F) := setAt (W3 m d) main_v9 (aggv (Uop m d) (Aop m d))
/-- before the last call, -/
def W5 (d : Dev nD) : Valuation τ sig (Elt F) := StableHlo.after opsC (W4 m d)
/-- after it, -/
def W6 (d : Dev nD) : Valuation τ sig (Elt F) := setAt (W5 m d) main_v11 (pAt (tcv (W5 m)) d)
/-- and at the end. -/
def W7 (d : Dev nD) : Valuation τ sig (Elt F) := StableHlo.after opsD (W6 m d)

/-! ## The calls' steps -/

/-- What the TensorCore owes before call `n`, its waits recorded below that call's levels. -/
abbrev debt (d : Dev nD) (n : ℕ) : sProp (MT nD τ sig (HIx 1) (Elt F) ℕ UU ℕ) :=
  iprop(∃ W, ⌜(K (F := F)).WBelow (T d) W (8 * n)⌝ ∗ owes (T d) ((K (F := F)).Otc d n) W)

theorem debt_none (n : ℕ) (c : Dev nD) (g : GSem nD τ sig) : (K (F := F)).Otc (N := 1) c n g none = 0 := by
  unfold SparseCore.Cfg.Otc
  refine Finset.sum_induction _ (fun x : CellTallies nD τ sig (HIx 1) => x g none = 0)
    (fun a b ha hb => by show a g none + b g none = 0; rw [ha, hb]) rfl fun q _ => ?_
  split
  · refine Finset.sum_induction _ (fun x : CellTallies nD τ sig (HIx 1) => x g none = 0)
      (fun a b ha hb => by show a g none + b g none = 0; rw [ha, hb]) rfl fun c' _ => ?_
    rw [tallyAt_apply, if_neg]; exact fun h => nomatch h.2
  · rfl

/-- The ghost state of a TensorCore call's staging cells. -/
abbrev ghost (p : Fin 2) (d : Dev nD) : sProp (MT nD τ sig (HIx 1) (Elt F) ℕ UU ℕ) :=
  iprop(Pipeline.cellsGhost (Pipeline.pin (pcfgs (F := F)) adm) EP p d ∗ Pipeline.toksInit (Pipeline.pin (pcfgs (F := F)) adm) EP p d)

variable [∀ e, Nonempty (Elt F e)]

theorem call0 (W : Dev nD → Valuation τ sig (Elt F)) (d : Dev nD) (n : ℕ) (Φ : PUnit → sProp (MT nD τ sig (HIx 1) (Elt F) ℕ UU ℕ)) :
    iprop(levAts (K (F := F)).L (K (F := F)).lev ∗ ghost 0 d ∗ boundary (T d) ∗ StableHlo.held (T d) hostBufs (W d) ∗ debt d n
        ∗ (iprop(boundary (T d) ∗ StableHlo.held (T d) hostBufs (setAt (W d) main_v7 (uAt (tcv W) d)) ∗ debt d n) -∗ Φ ⟨⟩))
      ⊢ wp frame (wpE ((K (F := F)).defs (D (F := F))) 𝒱 (T d) none) Set.univ
          (SparseCore.liftProg (.op (.customCall (Pipeline.entry 0) ()) .ret)) Φ := by
  refine BI.Entails.trans ?_ ((K (F := F)).wp_liftProg (D (F := F)) 𝒱 (T d) Set.univ none _ _)
  have key := Pipeline.RegionSeg.wp (pcfgs (F := F)) adm (pdats (tcv W) (fun c => (K (F := F)).Otc c n) (8 * n)) none cellOf_inj EP
    defs₀ 𝒱₀ (K (F := F)).L (K (F := F)).lev
    (reg0 (tcv W) (fun c => (K (F := F)).Otc c n) (8 * n) (tcv fun c => setAt (W c) main_v7 (uAt (tcv W) c))
      (fun c g => debt_none n c g) (fun c => setAt_self _ _ _) (fun c b h => setAt_ne _ _ _ h)) d none (fun _ h => nomatch h) .ret Φ
  refine BI.Entails.trans ?_ key
  rw [show (reg0 (tcv W) (fun c => (K (F := F)).Otc c n) (8 * n) (tcv fun c => setAt (W c) main_v7 (uAt (tcv W) c))
      (fun c g => debt_none n c g) (fun c => setAt_self _ _ _) (fun c b h => setAt_ne _ _ _ h)).pre d
      = around (tcv W) (fun c => (K (F := F)).Otc c n) (8 * n) d from rfl,
    show (reg0 (tcv W) (fun c => (K (F := F)).Otc c n) (8 * n) (tcv fun c => setAt (W c) main_v7 (uAt (tcv W) c))
      (fun c g => debt_none n c g) (fun c => setAt_self _ _ _) (fun c b h => setAt_ne _ _ _ h)).post d
      = around (tcv fun c => setAt (W c) main_v7 (uAt (tcv W) c)) (fun c => (K (F := F)).Otc c n) (8 * n) d from rfl]
  unfold around
  rw [hostBufs_held, hostBufs_held]
  show (_ : sProp (MT nD τ sig (HIx 1) (Elt F) ℕ UU ℕ)) ⊢ _
  iintro ⟨Hlv, ⟨Hg, Ht⟩, Hb, Hh, HO, Hk⟩
  isplitl [Hk]
  · iintro ⟨Hb, Hh, HO⟩
    rw [wp_ret]
    imodintro
    iapply Hk
    isplitl [Hb]; · iexact Hb
    isplitl [Hh] <;> iassumption
  isplitl [Hb]; · iexact Hb
  isplitl [Hh HO]; · isplitl [Hh] <;> iassumption
  isplitl [Hlv]; · iexact Hlv
  isplitl [Hg] <;> iassumption

theorem call2 (W : Dev nD → Valuation τ sig (Elt F)) (d : Dev nD) (n : ℕ) (Φ : PUnit → sProp (MT nD τ sig (HIx 1) (Elt F) ℕ UU ℕ)) :
    iprop(levAts (K (F := F)).L (K (F := F)).lev ∗ ghost 1 d ∗ boundary (T d) ∗ StableHlo.held (T d) hostBufs (W d) ∗ debt d n
        ∗ (iprop(boundary (T d) ∗ StableHlo.held (T d) hostBufs (setAt (W d) main_v11 (pAt (tcv W) d)) ∗ debt d n) -∗ Φ ⟨⟩))
      ⊢ wp frame (wpE ((K (F := F)).defs (D (F := F))) 𝒱 (T d) none) Set.univ
          (SparseCore.liftProg (.op (.customCall (Pipeline.entry 1) ()) .ret)) Φ := by
  refine BI.Entails.trans ?_ ((K (F := F)).wp_liftProg (D (F := F)) 𝒱 (T d) Set.univ none _ _)
  have key := Pipeline.RegionSeg.wp (pcfgs (F := F)) adm (pdats (tcv W) (fun c => (K (F := F)).Otc c n) (8 * n)) none cellOf_inj EP
    defs₀ 𝒱₀ (K (F := F)).L (K (F := F)).lev
    (reg2 (tcv W) (fun c => (K (F := F)).Otc c n) (8 * n) (tcv fun c => setAt (W c) main_v11 (pAt (tcv W) c))
      (fun c g => debt_none n c g) (fun c => setAt_self _ _ _) (fun c b h => setAt_ne _ _ _ h)) d none (fun _ h => nomatch h) .ret Φ
  refine BI.Entails.trans ?_ key
  rw [show (reg2 (tcv W) (fun c => (K (F := F)).Otc c n) (8 * n) (tcv fun c => setAt (W c) main_v11 (pAt (tcv W) c))
      (fun c g => debt_none n c g) (fun c => setAt_self _ _ _) (fun c b h => setAt_ne _ _ _ h)).pre d
      = around (tcv W) (fun c => (K (F := F)).Otc c n) (8 * n) d from rfl,
    show (reg2 (tcv W) (fun c => (K (F := F)).Otc c n) (8 * n) (tcv fun c => setAt (W c) main_v11 (pAt (tcv W) c))
      (fun c g => debt_none n c g) (fun c => setAt_self _ _ _) (fun c b h => setAt_ne _ _ _ h)).post d
      = around (tcv fun c => setAt (W c) main_v11 (pAt (tcv W) c)) (fun c => (K (F := F)).Otc c n) (8 * n) d from rfl]
  unfold around
  rw [hostBufs_held, hostBufs_held]
  show (_ : sProp (MT nD τ sig (HIx 1) (Elt F) ℕ UU ℕ)) ⊢ _
  iintro ⟨Hlv, ⟨Hg, Ht⟩, Hb, Hh, HO, Hk⟩
  isplitl [Hk]
  · iintro ⟨Hb, Hh, HO⟩
    rw [wp_ret]
    imodintro
    iapply Hk
    isplitl [Hb]; · iexact Hb
    isplitl [Hh] <;> iassumption
  isplitl [Hb]; · iexact Hb
  isplitl [Hh HO]; · isplitl [Hh] <;> iassumption
  isplitl [Hlv]; · iexact Hlv
  isplitl [Hg] <;> iassumption

/-! ## The SparseCore's call -/

/-- What the TensorCore keeps of its unscoped buffers while the SparseCores run. -/
def keptBufs : Finset (DevRef τ sig) :=
  ((hostBufs.erase (Proc.devRef .tc main_v9)).erase (Proc.devRef .tc main_v8)).erase (Proc.devRef .tc main_v5)

theorem held_pull (d : Dev nD) (S : Finset (DevRef τ sig)) (W : Valuation τ sig (Elt F)) (b : DevRef τ sig) (h : b ∈ S) :
    (StableHlo.held (T d) S W : sProp 𝕄) = iprop(((d, b) ↦{fullShare} W b) ∗ StableHlo.held (T d) (S.erase b) W) := by
  unfold StableHlo.held
  exact SparseCore.bigSep_erase' h

theorem sc_held (d : Dev nD) (W : Valuation τ sig (Elt F)) (f : Vec F S3136x192 .f32) :
    (StableHlo.held (T d) hostBufs (setAt W main_v9 f) : sProp 𝕄)
      = iprop((oLoc d ↦{fullShare} f) ∗ (uLoc d ↦{fullShare} W (Proc.devRef .tc main_v8)) ∗ (aLoc d ↦{fullShare} W (Proc.devRef .tc main_v5))
          ∗ StableHlo.held (T d) keptBufs W) := by
  have hne : ∀ {x y : Ref sig .tc}, x ≠ y → (Proc.devRef (τ := τ) .tc x) ≠ Proc.devRef .tc y := fun h e => h (Proc.devRef_injective _ e)
  rw [held_pull d hostBufs _ (Proc.devRef .tc main_v9) (mem_bufs _ rfl),
    held_pull d _ _ (Proc.devRef .tc main_v8) (Finset.mem_erase.mpr ⟨hne (by decide), mem_bufs _ rfl⟩),
    held_pull d _ _ (Proc.devRef .tc main_v5) (Finset.mem_erase.mpr ⟨hne (by decide), Finset.mem_erase.mpr ⟨hne (by decide), mem_bufs _ rfl⟩⟩),
    setAt_self, setAt_ne _ _ _ (show main_v8 ≠ main_v9 by decide), setAt_ne _ _ _ (show main_v5 ≠ main_v9 by decide)]
  have hk : (StableHlo.held (T d) keptBufs (setAt W main_v9 f) : sProp 𝕄) = StableHlo.held (T d) keptBufs W := by
    unfold StableHlo.held
    refine bigSep_congr fun b hb => ?_
    have hb9 : b ≠ Proc.devRef .tc main_v9 := (Finset.mem_erase.mp (Finset.mem_erase.mp (Finset.mem_erase.mp hb).2).2).1
    rw [show setAt W main_v9 f b = W b from Function.update_of_ne hb9 _ _]
  rw [← hk]
  rfl

/-- The SparseCore's call from the TensorCore's side: the aggregated rows are in its result's array. -/
theorem callSC (κ : GSem nD τ sig → ℕ) (d : Dev nD) (Φ : PUnit → sProp (MT nD τ sig (HIx 1) (Elt F) ℕ UU ℕ)) :
    iprop((K (F := F)).ctx EH (P (Uop m) (Aop m) (Oop m)) κ ∗ (K (F := F)).tcSt EH d 0 ∗ StableHlo.held (T d) hostBufs (W3 m d)
        ∗ (iprop((K (F := F)).tcSt EH d 1 ∗ StableHlo.held (T d) hostBufs (W4 m d)) -∗ Φ ⟨⟩))
      ⊢ wp frame (wpE ((K (F := F)).defs (D (F := F))) 𝒱 (T d) none) Set.univ ((K (F := F)).run d 0) Φ := by
  rw [show W3 m d = setAt (W3 m d) main_v9 (Oop m d) from (Function.update_eq_self _ _).symm, sc_held, W4, sc_held]
  iintro ⟨#Hctx, Hst, ⟨Ho, Hu, Ha, Hr⟩, Hk⟩
  iapply ((K (F := F)).wp_run (D (F := F)) 𝒱 (EH := EH) (P := P (Uop m) (Aop m) (Oop m)) κ d 0) $$ [Hst Ho Hu Ha Hr Hk]
  isplitr; · iexact Hctx
  isplitl [Hst]; · iexact Hst
  isplitl [Ho Hu Ha]
  · rw [st0_eq]
    isplitl [Hu]; · iexact Hu
    isplitl [Ha]; · iexact Ha
    iexact Ho
  iintro ⟨Hst, Hdn⟩
  ihave Hdn' := (Entails.of_eq (dn0_eq d (Uop m) (Aop m) (Oop m))) $$ Hdn
  icases Hdn' with ⟨Hu, Ha, Ho⟩
  iapply Hk
  isplitl [Hst]; · iexact Hst
  isplitl [Ho]; · iexact Ho
  isplitl [Hu]; · iexact Hu
  isplitl [Ha]; · iexact Ha
  iexact Hr

/-! ## `@main` -/

/-- The rest of the TensorCore's state before call `n`, beside what it owes. -/
def tcTail (d : Dev nD) (n : ℕ) : sProp (MT nD τ sig (HIx 1) (Elt F) ℕ UU ℕ) :=
  iprop(atPos (EH (F := F)) ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(debt d n ∗ tcTail d n) := rfl

theorem launch_held (d : Dev nD) :
    (unscopedBufs d (fun b => m ((SparseCore.T d).loc b)) : sProp 𝕄) = StableHlo.held (T d) hostBufs (W0 m d) :=
  (congrArg (unscopedBufs d) (funext fun _ => rfl)).trans (hostBufs_held d (W0 m d))

/-- What the TensorCore ends with: every unscoped buffer at its last contents. -/
abbrev FIN (d : Dev nD) : sProp (MT nD τ sig (HIx 1) (Elt F) ℕ UU ℕ) := StableHlo.held (T d) hostBufs (W7 m d)

set_option backward.isDefEq.respectTransparency.types false in
theorem hmain (κ : GSem nD τ sig → ℕ) (d : Dev nD) :
    iprop((K (F := F)).ctx EH (P (Uop m) (Aop m) (Oop m)) κ ∗ (K (F := F)).tcSt EH d 0 ∗ (K (F := F)).tcRes m ρ d ∗ ghost 0 d ∗ ghost 1 d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, launch_held m d]
  iintro ⟨#Hctx, Hst, ⟨Hb, Hh, Hs, -⟩, HG0, HG1⟩
  ihave #Hlv := ((K (F := F)).ctx_levAts κ) $$ Hctx
  iapply (StableHlo.wp_seq 𝒱 none Set.univ d hostBufs _ opsA opsA_sub opsA_fresh (W0 m d)) $$ [Hb Hh]
  · isplitl [Hb]; · iexact Hb
    iexact Hh
  iintro ⟨Hb, Hh⟩
  rw [wp_bind]
  ihave Hst' := (Entails.of_eq (tcSt_eq d 0)) $$ Hst
  icases Hst' with ⟨HO, Ht⟩
  iapply (call0 (W1 m) d 0)
  isplitr; · iexact Hlv
  isplitl [HG0]; · iexact HG0
  isplitl [Hb]; · iexact Hb
  isplitl [Hh]; · iexact Hh
  isplitl [HO]; · iexact HO
  iintro ⟨Hb, Hh, HO⟩
  iapply (StableHlo.wp_seq 𝒱 none Set.univ d hostBufs _ opsB opsB_sub opsB_fresh (W2 m d)) $$ [Hb Hh]
  · isplitl [Hb]; · iexact Hb
    iexact Hh
  iintro ⟨Hb, Hh⟩
  rw [wp_bind]
  iapply (callSC m κ d)
  isplitr; · iexact Hctx
  isplitl [HO Ht]
  · rw [tcSt_eq d 0]
    isplitl [HO] <;> iassumption
  isplitl [Hh]; · iexact Hh
  iintro ⟨Hst, Hh⟩
  iapply (StableHlo.wp_seq 𝒱 none Set.univ d hostBufs _ opsC opsC_sub opsC_fresh (W4 m d)) $$ [Hb Hh]
  · isplitl [Hb]; · iexact Hb
    iexact Hh
  iintro ⟨Hb, Hh⟩
  rw [wp_bind]
  ihave Hst' := (Entails.of_eq (tcSt_eq d 1)) $$ Hst
  icases Hst' with ⟨HO, Ht⟩
  iapply (call2 (W5 m) d 1)
  isplitr; · iexact Hlv
  isplitl [HG1]; · iexact HG1
  isplitl [Hb]; · iexact Hb
  isplitl [Hh]; · iexact Hh
  isplitl [HO]; · iexact HO
  iintro ⟨Hb, Hh, HO⟩
  iapply (StableHlo.wp_seq 𝒱 none Set.univ d hostBufs _ opsD opsD_sub opsD_fresh (W6 m d)) $$ [Hb Hh]
  · isplitl [Hb]; · iexact Hb
    iexact Hh
  iintro ⟨Hb, Hh⟩
  rw [wp_pure, tcSt_eq d 1]
  imodintro
  isplitl [HO Ht]; · isplitl [HO] <;> iassumption
  isplitl [Hh]; · iexact Hh
  isplitl [Hb] <;> iassumption

/-! ## The launch's ghost state and the final reading -/

/-- The launch's ghost state: the handshakes' rounds, the staging cells' and the transfers' counters. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem two_sep (Φ : Fin 2 → sProp (MT nD τ sig (HIx 1) (Elt F) ℕ UU ℕ)) : bigSep Finset.univ Φ = iprop(Φ 0 ∗ Φ 1) :=
  BI.bigSep_fin_two Φ

theorem hu₀ : (ownU (u₀ (F := F)) : sProp 𝕄)
    ⊢ |={Set.univ}=> iprop(own (EH (initOf (K (F := F)).hsCells (K (F := F)).hsToks)) ∗ (bigSep Finset.univ fun d : Dev nD => iprop(ghost 0 d ∗ ghost 1 d))
      ∗ bigSep Finset.univ fun thr : Thread nD τ => bigSep Finset.univ fun q : Fin 1 => (P (Uop m) (Aop m) (Oop m)).x q thr) := by
  have hx : (bigSep Finset.univ fun thr : Thread nD τ => bigSep Finset.univ fun q : Fin 1 => (P (Uop m) (Aop m) (Oop m)).x q thr)
      = (iprop(emp) : sProp 𝕄) := by
    rw [show (bigSep Finset.univ fun thr : Thread nD τ => bigSep Finset.univ fun q : Fin 1 => (P (Uop m) (Aop m) (Oop m)).x q thr)
        = bigSep Finset.univ fun _ => iprop(emp) from bigSep_congr fun _ _ => bigSep_univ_of_subsingleton (0 : Fin 1)]
    exact bigSep_emp_const _
  have hg : (iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => Pipeline.toksInit (Pipeline.pin (pcfgs (F := F)) adm) EP p c)) : sProp 𝕄)
      ⊢ bigSep Finset.univ fun d : Dev nD => iprop(ghost 0 d ∗ ghost 1 d) := by
    rw [← bigSep_sep']
    refine bigSep_mono fun d _ => ?_
    rw [two_sep, two_sep]
    show (_ : sProp (MT nD τ sig (HIx 1) (Elt F) ℕ UU ℕ)) ⊢ _
    iintro ⟨⟨Ha, Hb⟩, Hc, Hd⟩
    isplitl [Ha Hc]
    · isplitl [Ha] <;> iassumption
    isplitl [Hb] <;> iassumption
  rw [hx]
  unfold u₀
  iintro Hu
  ihave H := (ownU_pair _ _) $$ Hu
  icases H with ⟨HH, HR⟩
  ihave H2 := (own_pair_emb (embR : Emb (UP × Counters) (MT nD τ sig (HIx 1) (Elt F) ℕ UU ℕ)) _ _) $$ HR
  icases H2 with ⟨HP, -⟩
  imod (Pipeline.fund_ghost (Pipeline.pin (pcfgs (F := F)) adm) EP cellOf_inj) $$ HP with H3
  ihave H4 := hg $$ H3
  imodintro
  isplitl [HH]; · iexact HH
  isplitl [H4]; · iexact H4
  iempintro

def fq (d : Dev nD) (s' : Phys nD τ sig (Elt F)) : Prop := ∀ b ∈ hostBufs, s'.mem.mem (d, b) = W7 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) hostBufs) $$ [HSI H]
  · isplitl [HSI] <;> iassumption
  ipureintro
  exact h

/-! ## The run -/

/-- At the end every unscoped buffer of every TensorCore holds its last contents, and every semaphore counts zero. -/
theorem run_main : θ_run (Cert.KernelIdeal.defs (F := F)) (Cert.KernelIdeal.threads (F := F)) ⟨m, fun _ => 0, ρ⟩
    (fun r => (∀ c : Dev nD, ∀ b ∈ hostBufs, r.2.mem (c, b) = W7 m c b) ∧ r.2.sem = fun _ => 0) :=
  SparseCore.Cfg.θ_run_sc_quiescent (K := K (F := F)) (D := D (F := F)) (𝒱 := 𝒱) (EH := EH) (P := P (Uop m) (Aop m) (Oop m)) (A := ∅) facts v₀
    (fun q hq => match q with | 0 => nomatch hq)
    (fun q _ => match q with | 0 => tileObl (Uop m) (Aop m) (Oop m))
    (fun q _ => match q with | 0 => SparseCore.Cfg.VecSplit.of_plain (vecSplit (Uop m) (Aop m) (Oop m)))
    m ρ main (fun d => iprop(ghost 0 d ∗ ghost 1 d)) (FIN m) (u₀ (F := F)) (sep_elim_left.trans (hu₀ m)) (hmain m ρ) (fq m) (hfin m) _ (fun _ h hz => ⟨h, hz⟩)

/-! ## The arguments at the end -/

/-- What the host's operations and the calls write. -/
def written : List (Ref sig .tc) :=
  [main_v0, main_v1, main_v2, main_v3, main_v4, main_c, main_call0.v0.ref, main_v5, main_v6, main_v7, main_v8, main_v9, main_v10, main_v11, main_v12]

theorem write_one {x : Ref sig .tc} (h : x ∈ written) :
    ({Proc.devRef .tc x} : Finset (DevRef τ sig)) ⊆ (written.map (Proc.devRef .tc)).toFinset :=
  Finset.singleton_subset_iff.mpr (List.mem_toFinset.mpr (List.mem_map_of_mem h))

/-- A buffer no operation and no call writes is at the end as at the launch. -/
theorem kept (d : Dev nD) (b : Ref sig .tc) (hb : b ∉ written) : W7 m d (Proc.devRef .tc b) = m (d, Proc.devRef .tc b) := by
  have hA : ∀ V : Valuation τ sig (Elt F), StableHlo.after opsA V (Proc.devRef .tc b) = V (Proc.devRef .tc b) := fun V =>
    StableHlo.after_of_writes_sub opsA V (W := written)
      (show (opsA : List (HloOp τ sig (Elt F))).Forall _ from
        ⟨write_one (x := main_v0) (by decide), write_one (x := main_v1) (by decide), write_one (x := main_v2) (by decide), write_one (x := main_v3) (by decide),
          write_one (x := main_v4) (by decide), write_one (x := main_c) (by decide), write_one (x := main_call0.v0.ref) (by decide),
          write_one (x := main_v5) (by decide), write_one (x := main_v6) (by decide)⟩) hb
  have hB : ∀ V : Valuation τ sig (Elt F), StableHlo.after opsB V (Proc.devRef .tc b) = V (Proc.devRef .tc b) := fun V =>
    StableHlo.after_of_writes_sub opsB V (W := written) (write_one (x := main_v8) (by decide)) hb
  have hC : ∀ V : Valuation τ sig (Elt F), StableHlo.after opsC V (Proc.devRef .tc b) = V (Proc.devRef .tc b) := fun V =>
    StableHlo.after_of_writes_sub opsC V (W := written) (write_one (x := main_v10) (by decide)) hb
  have hD : ∀ V : Valuation τ sig (Elt F), StableHlo.after opsD V (Proc.devRef .tc b) = V (Proc.devRef .tc b) := fun V =>
    StableHlo.after_of_writes_sub opsD V (W := written) (write_one (x := main_v12) (by decide)) hb
  have hne : ∀ x ∈ written, b ≠ x := fun x hx e => hb (e ▸ hx)
  rw [W7, hD, W6, setAt_ne _ _ _ (hne main_v11 (by decide)), W5, hC, W4, setAt_ne _ _ _ (hne main_v9 (by decide)), W3, hB, W2,
    setAt_ne _ _ _ (hne main_v7 (by decide)), W1, hA]
  rfl

/-- What a run's final state holds: the arguments as they were, the result at its last contents, every semaphore at zero. -/
theorem run_args : θ_run (Cert.KernelIdeal.defs (F := F)) (Cert.KernelIdeal.threads (F := F)) ⟨m, fun _ => 0, ρ⟩ (fun r =>
    (∀ c : Dev nD, r.2.mem ((c.tc : Thread nD τ).loc main_v12) = W7 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run _ _ _).mono (fun r h => ⟨fun c => ⟨h.1 c _ (mem_bufs main_v12 rfl),
      (h.1 c _ (mem_bufs main_arg0 rfl)).trans (kept m c main_arg0 (by decide)),
      (h.1 c _ (mem_bufs main_arg1 rfl)).trans (kept m c main_arg1 (by decide)),
      (h.1 c _ (mem_bufs main_arg2 rfl)).trans (kept m c main_arg2 (by decide)),
      (h.1 c _ (mem_bufs main_arg3 rfl)).trans (kept m c main_arg3 (by decide)),
      (h.1 c _ (mem_bufs main_arg4 rfl)).trans (kept m c main_arg4 (by decide)),
      (h.1 c _ (mem_bufs main_arg5 rfl)).trans (kept m c main_arg5 (by decide)),
      (h.1 c _ (mem_bufs main_arg6 rfl)).trans (kept m c main_arg6 (by decide))⟩, h.2⟩) (run_main m ρ)

end Cert.KernelIdeal.Run
-- ==== Proof.Frames.lean ====
/-
  The kernel's two frames, from its run: the same program over the bits and over the exact values.
-/
module

public import proofs.«01_k».proof.Defs
public import proofs.«01_k».proof.Proof.Gen.Kernel
public import proofs.«01_k».proof.Proof.Gen.ReferenceIdeal.Run
public import proofs.«01_k».proof.Proof.Main

@[expose] public section

noncomputable section

namespace Cert.Proof

open Idealize.ShloMosaic Idealize.SL.Sem

theorem frame_KernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Run.run_args (F := Ideal) m ρ)

theorem run_Bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (Cert.KernelIdeal.threads (F := Bits)) ⟨m, fun _ => 0, ρ⟩ (fun r => (∀ c : Dev Cert.KernelIdeal.nD,
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
    ∧ r.2.sem = fun _ => 0) :=
  (θ_run Cert.KernelIdeal.defs _ _).mono (fun _ h => ⟨fun c => (h.1 c).2, h.2⟩) (Cert.KernelIdeal.Run.run_args (F := Bits) m ρ)

/-! The program over the bits and the program over the exact values are one text printed twice: the same buffers, the same
bodies and the same `@main`. -/

theorem body0_same : @Cert.Kernel.cc0__vproj_body Bits _ _ = @Cert.KernelIdeal.cc0__vproj_body Bits _ _ := rfl
theorem body1_same : @Cert.Kernel.cc1__agg Bits _ _ = @Cert.KernelIdeal.cc1__agg Bits _ _ := rfl
theorem body2_same : @Cert.Kernel.cc2__oproj_body Bits _ _ = @Cert.KernelIdeal.cc2__oproj_body Bits _ _ := rfl

theorem bodies_same : Cert.Kernel.defs₀ (F := Bits) = Cert.KernelIdeal.defs₀ (F := Bits) := by
  funext p ℓ a
  rcases p with _ | c | ⟨c, s⟩
  · match ℓ, a with
    | 0, (t, s) => rfl
    | 1, _ => rfl
    | 2, (t, s) => rfl
  · match ℓ, a with
    | 0, _ => rfl
    | 1, _ => rfl
    | 2, _ => rfl
  · match ℓ, a with
    | 0, _ => rfl
    | 1, _ => rfl
    | 2, _ => rfl

theorem defs_same : Cert.Kernel.defs (F := Bits) = Cert.KernelIdeal.defs (F := Bits) :=
  congrArg (fun D => (Cert.KernelIdeal.sc (F := Bits)).defs (Pipeline.defs (Cert.KernelIdeal.pcfgs (F := Bits)) D)) bodies_same

theorem main_same : Cert.Kernel.main (F := Bits) = Cert.KernelIdeal.main (F := Bits) := rfl

theorem threads_same : Cert.Kernel.threads (F := Bits) = Cert.KernelIdeal.threads (F := Bits) := rfl

theorem frame_Kernel : Cert.quiescent_Kernel (hKernel := Cert.Kernel.Gen.facts) := by
  intro m ρ _
  rw [defs_same, threads_same]
  exact run_Bits m ρ

/-- The reference declares no semaphore: its frame is its run read at its arguments. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.KernVal.lean ====
/-
  The kernel's result as one term of its arguments: the host's layouts, the two TensorCore calls and the SparseCore's
  aggregate between them.
-/
module

public import proofs.«01_k».proof.Proof.Main
public import Idealize.ShloMosaic.Lib.Pointwise

@[expose] public section

noncomputable section

namespace Cert.KernelIdeal.Run

open Cert.KernelIdeal Cert.KernelIdeal.Gen Cert.KernelIdeal.Trip
open Idealize.ShloMosaic Idealize.SL.Sem
open Idealize.ShloMosaic.TcCoe Idealize.ShloMosaic.StableHlo

section Host
variable {F : FTy → Type} [FloatOps F]

/-- The weights by rows, each row of 196 lengthened by zeros to 208. -/
def padded (a : Vec F S1x4x56x56x49 .f32) : Vec F S56x56x208 .f32 :=
  pad S56x56x208 ![0, 0, 0] ![0, 0, 12] ![0, 0, 0]
    (shapeCast S56x56x196 (transpose S56x56x4x49 [1, 2, 0, 3] (shapeCast S4x56x56x49 a shapeCasts_S1x4x56x56x49_S4x56x56x49)
      transposes_S4x56x56x49_S56x56x4x49_1_2_0_3) shapeCasts_S56x56x4x49_S56x56x196)
    (sitofp .f32 (constantI S_ 32 0#32)) pads_S56x56x196_S56x56x208_000_000_0120 h_S_

/-- The first call's result by rows. -/
def scaled (x : Vec F S1x56x56x192 .f32) (sp : Vec F S1x56x56 .f32) (vw : Vec F S192x192 .f32) (vb : Vec F S192 .f32) : Vec F S56x56x192 .f32 :=
  shapeCast S56x56x192 (uval (shapeCast S3136x192 x shapeCasts_S1x56x56x192_S3136x192) vw (shapeCast S1x192 vb shapeCasts_S192_S1x192)
    (shapeCast S3136x1 sp shapeCasts_S1x56x56_S3136x1)) shapeCasts_S3136x192_S56x56x192

/-- The result. -/
def whole (x : Vec F S1x56x56x192 .f32) (a : Vec F S1x4x56x56x49 .f32) (sp : Vec F S1x56x56 .f32) (vw : Vec F S192x192 .f32) (vb : Vec F S192 .f32)
    (pw : Vec F S192x192 .f32) (pb : Vec F S192 .f32) : Vec F S1x56x56x192 .f32 :=
  shapeCast S1x56x56x192 (pval (aggv (scaled x sp vw vb) (padded a)) pw (shapeCast S1x192 pb shapeCasts_S192_S1x192)) shapeCasts_S3136x192_S1x56x56x192

variable (m : (ℓ : Loc nD τ sig) → Buf (Elt F) ℓ) (d : Dev nD)

theorem W1_0 : W1 m d (Proc.devRef .tc main_v0) = shapeCast S3136x192 (m (d, Proc.devRef .tc main_arg0)) shapeCasts_S1x56x56x192_S3136x192 := by
  unfold W1 opsA; after_results_simp <;> rfl
theorem W1_1 : W1 m d (Proc.devRef .tc main_v1) = shapeCast S3136x1 (m (d, Proc.devRef .tc main_arg2)) shapeCasts_S1x56x56_S3136x1 := by
  unfold W1 opsA; after_results_simp <;> rfl
theorem W1_5 : W1 m d (Proc.devRef .tc main_v5) = padded (m (d, Proc.devRef .tc main_arg1)) := by
  unfold W1 opsA; simp only [TRef.binary, TRef.unary, TRef.toBuf, TRef.ofBuf, cast_eq]; after_results_simp <;> rfl
theorem W1_6 : W1 m d (Proc.devRef .tc main_v6) = shapeCast S1x192 (m (d, Proc.devRef .tc main_arg4)) shapeCasts_S192_S1x192 := by
  unfold W1 opsA; after_results_simp <;> rfl

theorem W1_arg (b : Ref sig .tc) (hb : b ∉ written) : W1 m d (Proc.devRef .tc b) = m (d, Proc.devRef .tc b) :=
  after_of_writes_sub opsA (W0 m d) (W := written)
    (show (opsA : List (HloOp τ sig (Elt F))).Forall _ from
      ⟨write_one (x := main_v0) (by decide), write_one (x := main_v1) (by decide), write_one (x := main_v2) (by decide),
        write_one (x := main_v3) (by decide), write_one (x := main_v4) (by decide), write_one (x := main_c) (by decide),
        write_one (x := main_call0.v0.ref) (by decide), write_one (x := main_v5) (by decide), write_one (x := main_v6) (by decide)⟩) hb

theorem W3_of (b : Ref sig .tc) (h8 : b ≠ main_v8) (h7 : b ≠ main_v7) : W3 m d (Proc.devRef .tc b) = W1 m d (Proc.devRef .tc b) :=
  (after_of_writes_sub opsB (W2 m d) (W := [main_v8]) (by
    show ({Proc.devRef .tc main_v8} : Finset (DevRef τ sig)) ⊆ ([main_v8].map (Proc.devRef .tc)).toFinset
    exact Finset.singleton_subset_iff.mpr (List.mem_toFinset.mpr (List.mem_singleton.mpr rfl))) (by simpa using h8)).trans (setAt_ne _ _ _ h7)

theorem W5_of (b : Ref sig .tc) (h10 : b ≠ main_v10) (h9 : b ≠ main_v9) : W5 m d (Proc.devRef .tc b) = W3 m d (Proc.devRef .tc b) :=
  (after_of_writes_sub opsC (W4 m d) (W := [main_v10]) (by
    show ({Proc.devRef .tc main_v10} : Finset (DevRef τ sig)) ⊆ ([main_v10].map (Proc.devRef .tc)).toFinset
    exact Finset.singleton_subset_iff.mpr (List.mem_toFinset.mpr (List.mem_singleton.mpr rfl))) (by simpa using h10)).trans (setAt_ne _ _ _ h9)

theorem Uop_eq : Uop m d = scaled (m (d, Proc.devRef .tc main_arg0)) (m (d, Proc.devRef .tc main_arg2)) (m (d, Proc.devRef .tc main_arg3))
    (m (d, Proc.devRef .tc main_arg4)) := by
  have h : Uop m d = shapeCast S56x56x192 (W2 m d (Proc.devRef .tc main_v7)) shapeCasts_S3136x192_S56x56x192 := by
    unfold Uop W3 opsB; after_results_simp <;> rfl
  rw [h, W2, setAt_self]
  unfold uAt tcv
  rw [W1_0, W1_1, W1_6, W1_arg m d main_arg3 (by decide)]
  rfl

theorem Aop_eq : Aop m d = padded (m (d, Proc.devRef .tc main_arg1)) := by
  unfold Aop; rw [W3_of m d main_v5 (by decide) (by decide), W1_5]

theorem W5_9 : W5 m d (Proc.devRef .tc main_v9) = aggv (Uop m d) (Aop m d) := by
  have h : W5 m d (Proc.devRef .tc main_v9) = W4 m d (Proc.devRef .tc main_v9) := by
    unfold W5 opsC; after_results_simp <;> rfl
  rw [h, W4, setAt_self]

theorem W5_10 : W5 m d (Proc.devRef .tc main_v10) = shapeCast S1x192 (m (d, Proc.devRef .tc main_arg6)) shapeCasts_S192_S1x192 := by
  have h : W5 m d (Proc.devRef .tc main_v10) = shapeCast S1x192 (W4 m d (Proc.devRef .tc main_arg6)) shapeCasts_S192_S1x192 := by
    unfold W5 opsC; after_results_simp <;> rfl
  rw [h, W4, setAt_ne _ _ _ (by decide), W3_of m d main_arg6 (by decide) (by decide), W1_arg m d main_arg6 (by decide)]

/-- The kernel's result. -/
theorem W7_eq : W7 m d (Proc.devRef .tc main_v12) = whole (m (d, Proc.devRef .tc main_arg0)) (m (d, Proc.devRef .tc main_arg1))
    (m (d, Proc.devRef .tc main_arg2)) (m (d, Proc.devRef .tc main_arg3)) (m (d, Proc.devRef .tc main_arg4)) (m (d, Proc.devRef .tc main_arg5))
    (m (d, Proc.devRef .tc main_arg6)) := by
  have h : W7 m d (Proc.devRef .tc main_v12) = shapeCast S1x56x56x192 (W6 m d (Proc.devRef .tc main_v11)) shapeCasts_S3136x192_S1x56x56x192 := by
    unfold W7 opsD; after_results_simp <;> rfl
  rw [h, W6, setAt_self]
  unfold pAt tcv
  rw [W5_9, W5_10, W5_of m d main_arg5 (by decide) (by decide), W3_of m d main_arg5 (by decide) (by decide), W1_arg m d main_arg5 (by decide),
    Uop_eq, Aop_eq]
  rfl

end Host

/-! ## The result, element by element -/

abbrev FV (s : Shape) : Type := FVec Ideal s .f32

/-- Pixel `(h, w)` among the 3136. -/
def pixel (h w : Fin 56) : Fin 3136 := ⟨h.val * 56 + w.val, by omega⟩

theorem scaled_apply (x : FV S1x56x56x192) (sp : FV S1x56x56) (vw : FV S192x192) (vb : FV S192) (h w : Fin 56) (c : Fin 192) :
    scaled (F := Ideal) x sp vw vb (ix3 h w c) = ((∑ k : Fin 192, x (ix4 0 h w k) * vw (ix2 c k)) + vb (ix1 c)) * sp (ix3 0 h w) := by
  pointwise [scaled, uval]

theorem padded_apply (a : FV S1x4x56x56x49) (h w : Fin 56) (n : Fin 4) (t : Fin 49) :
    padded (F := Ideal) a (ix3 h w ⟨49 * n.val + t.val, by omega⟩) = a (ix5 0 n h w t) := by
  pointwise [padded]
  exact dif_pos (by omega)

theorem whole_apply (x : FV S1x56x56x192) (a : FV S1x4x56x56x49) (sp : FV S1x56x56) (vw : FV S192x192) (vb : FV S192) (pw : FV S192x192) (pb : FV S192)
    (h w : Fin 56) (o : Fin 192) :
    whole (F := Ideal) x a sp vw vb pw pb (ix4 0 h w o)
      = (∑ c : Fin 192, aggv (scaled (F := Ideal) x sp vw vb) (padded (F := Ideal) a) (ix2 (pixel h w) c) * pw (ix2 o c)) + pb (ix1 o) := by
  pointwise [whole, pval, pixel]

/-! ## The aggregate's sums -/

theorem foldl_add {ι : Type} (f : ι → EReal) (l : List ι) (z : EReal) : l.foldl (fun r p => r + f p) z = z + (l.map f).sum := by
  induction l generalizing z with
  | nil => simp
  | cons a l ih => rw [List.foldl_cons, ih, List.map_cons, List.sum_cons, add_assoc]

theorem dot_sum (fu : FV S7x56x192) (fa : FV S56x208) (s y x b : ℕ) :
    dot (F := Ideal) fu fa s y x b
      = ((places b).map fun p => (get2 fa y (49 * (x / 48) + 7 * p.1 + p.2) * get3 fu p.1 (s + p.2) x : EReal)).sum := by
  have h0 : (Scalar.ofBits .f32 0x00000000#32 : Ideal .f32) = (0 : EReal) := by pointwise
  unfold dot
  rw [h0]
  exact (foldl_add _ _ _).trans (zero_add _)

/-- The even columns' places and the odd columns' together are all 49. -/
theorem places_sum (f : ℕ → ℕ → EReal) :
    ((places 0).map fun p => f p.1 p.2).sum + ((places 1).map fun p => f p.1 p.2).sum = ∑ k : Fin 7, ∑ l : Fin 7, f k.val l.val := by
  simp only [Fin.sum_univ_seven]
  simp [places, List.flatMap]
  abel

theorem oval_sum (fu : FV S7x56x192) (fa : FV S56x208) (s y x : ℕ) :
    oval (F := Ideal) fu fa s y x
      = ∑ k : Fin 7, ∑ l : Fin 7, (get2 fa y (49 * (x / 48) + 7 * k.val + l.val) * get3 fu k.val (s + l.val) x : EReal) := by
  refine Eq.trans ?_ (places_sum fun k l => (get2 fa y (49 * (x / 48) + 7 * k + l) * get3 fu k (s + l) x : EReal))
  rw [← dot_sum, ← dot_sum]; rfl

end Cert.KernelIdeal.Run
-- ==== Proof.RefVal.lean ====
/-
  The reference's result, element by element: its value projection, the neighbourhood's weighted sum and its output
  projection as sums over the extended reals.
-/
module

public import proofs.«01_k».proof.Proof.Gen.ReferenceIdeal.Run
public import Idealize.ShloMosaic.Lib.Pointwise

@[expose] public section

noncomputable section

namespace Cert.ReferenceIdeal.Elem

open Cert.ReferenceIdeal Cert.ReferenceIdeal.Gen Idealize.ShloMosaic Idealize.SL.Sem

/-! ## What the reference computes -/

/-- Place `k` of a window of seven along an axis of 56, for the query at `i`: the window starts at `i - 3`, moved inside. -/
def place (i : Fin 56) (k : Fin 7) : Fin 56 := ⟨min (i.val - 3) 49 + k.val, by omega⟩

/-- The head of column `c`, and its place in the head. -/
def head (c : Fin 192) : Fin 4 := ⟨c.val / 48, by omega⟩
def lane (c : Fin 192) : Fin 48 := ⟨c.val % 48, by omega⟩

/-- Place `(k, l)` of a window, in the weights' row of 49. -/
def spot (k l : Fin 7) : Fin 49 := ⟨k.val * 7 + l.val, by omega⟩

/-- The value projection at pixel `(h, w)`. -/
def value (x : S1x56x56x192.Idx → EReal) (vw : S192x192.Idx → EReal) (vb : S192.Idx → EReal) (h w : Fin 56) (c : Fin 192) : EReal :=
  (∑ k : Fin 192, x (ix4 0 h w k) * vw (ix2 c k)) + vb (ix1 c)

/-- The neighbourhood's weighted sum at pixel `(h, w)`, the weights multiplied by the map `sp` at each neighbour. -/
def near (a : S1x4x56x56x49.Idx → EReal) (sp : S1x56x56.Idx → EReal) (v : Fin 56 → Fin 56 → Fin 192 → EReal) (h w : Fin 56) (c : Fin 192) : EReal :=
  ∑ k : Fin 7, ∑ l : Fin 7, a (ix5 0 (head c) h w (spot k l)) * sp (ix3 0 (place h k) (place w l)) * v (place h k) (place w l) c

/-- The result at pixel `(h, w)`. -/
def out (x : S1x56x56x192.Idx → EReal) (a : S1x4x56x56x49.Idx → EReal) (sp : S1x56x56.Idx → EReal) (vw : S192x192.Idx → EReal)
    (vb : S192.Idx → EReal) (pw : S192x192.Idx → EReal) (pb : S192.Idx → EReal) (h w : Fin 56) (o : Fin 192) : EReal :=
  (∑ c : Fin 192, near a sp (value x vw vb) h w c * pw (ix2 o c)) + pb (ix1 o)

/-! ## The windows' places, as the reference computes them -/

/-- The windows' starts. -/
def starts : IVec S56 32 :=
  minsi (broadcastInDim S56 ![] bcast_S_S56 (id (constantI S_ 32 49#32))) (maxsi (broadcastInDim S56 ![] bcast_S_S56 (id (constantI S_ 32 0#32)))
    (subi (iotaInDim S56 32 0) (broadcastInDim S56 ![] bcast_S_S56 (constantI S_ 32 3#32))))

/-- The windows' places. -/
def spread : IVec S56x7 32 :=
  addi (broadcastInDim S56x7 ![0, 1] bcast_S56x1_S56x7_0_1 (broadcastInDim S56x1 ![0] bcast_S56_S56x1_0 starts))
    (broadcastInDim S56x7 ![0, 1] bcast_S1x7_S56x7_0_1 (broadcastInDim S1x7 ![1] bcast_S7_S1x7_1 (iotaInDim S7 32 0)))

/-- The places, a negative one counted from the end, as the gathers read them. -/
def spreadAt : IVec S56x7x1 32 :=
  broadcastInDim S56x7x1 ![0, 1] bcast_S56x7_S56x7x1_0_1 (select (cmpi .slt spread (broadcastInDim S56x7 ![] bcast_S_S56x7 (constantI S_ 32 0#32)))
    (addi spread (broadcastInDim S56x7 ![] bcast_S_S56x7 (constantI S_ 32 56#32))) spread)

theorem starts_apply (i : Fin 56) : starts (ix1 i) = BitVec.ofNat 32 (min (i.val - 3) 49) := by
  pointwise [starts]
  revert i
  decide

theorem spread_apply (i : Fin 56) (k : Fin 7) : spread (ix2 i k) = BitVec.ofNat 32 (place i k).val := by
  pointwise [spread, starts_apply]
  exact (BitVec.ofNat_add _ _).symm

theorem spreadAt_apply (i : Fin 56) (k : Fin 7) : (spreadAt (ix3 i k 0)).toInt.toNat = (place i k).val := by
  pointwise [spreadAt, spread_apply]
  generalize place i k = p
  revert p
  decide

/-! ## The four gathers at the windows' places -/

section Gathers
variable {α : Type}

theorem rows5 (x : S1x4x56x56x48.Idx → α) (n : Fin 4) (h : Fin 56) (k : Fin 7) (w : Fin 56) (e : Fin 48) :
    Host.gather gather_S1x4x56x56x48_S56x7x1_S1x4x56x7x56x48_0145_2_n_n_2_2_1415648 x spreadAt (ix6 0 n h k w e)
      = x (ix5 0 n (place h k) w e) := by
  unfold Host.gather
  congr 1
  funext a
  refine Fin.ext ?_
  have hs : spreadAt (GatherDims.siIdx gather_S1x4x56x56x48_S56x7x1_S1x4x56x7x56x48_0145_2_n_n_2_2_1415648 (ix6 0 n h k w e) ⟨0, Nat.one_pos⟩) = spreadAt (ix3 h k 0) :=
    congrArg spreadAt (by funext b; refine Fin.ext ?_; match b with | ⟨0, _⟩ => rfl | ⟨1, _⟩ => rfl | ⟨2, _⟩ => rfl)
  match a with
  | ⟨0, _⟩ => rfl
  | ⟨1, _⟩ => exact Nat.zero_add _
  | ⟨2, _⟩ =>
    show min (spreadAt (GatherDims.siIdx gather_S1x4x56x56x48_S56x7x1_S1x4x56x7x56x48_0145_2_n_n_2_2_1415648 (ix6 0 n h k w e) ⟨0, Nat.one_pos⟩)).toInt.toNat 55 = (place h k).val
    rw [hs, spreadAt_apply]; exact Nat.min_eq_left (by omega)
  | ⟨3, _⟩ => exact Nat.zero_add _
  | ⟨4, _⟩ => exact Nat.zero_add _

theorem cols6 (x : S1x4x56x7x56x48.Idx → α) (n : Fin 4) (h : Fin 56) (k : Fin 7) (w : Fin 56) (l : Fin 7) (e : Fin 48) :
    Host.gather gather_S1x4x56x7x56x48_S56x7x1_S1x4x56x7x56x7x48_01236_4_n_n_4_2_14567148 x spreadAt (ix7 0 n h k w l e)
      = x (ix6 0 n h k (place w l) e) := by
  unfold Host.gather
  congr 1
  funext a
  refine Fin.ext ?_
  have hs : spreadAt (GatherDims.siIdx gather_S1x4x56x7x56x48_S56x7x1_S1x4x56x7x56x7x48_01236_4_n_n_4_2_14567148 (ix7 0 n h k w l e) ⟨0, Nat.one_pos⟩) = spreadAt (ix3 w l 0) :=
    congrArg spreadAt (by funext b; refine Fin.ext ?_; match b with | ⟨0, _⟩ => rfl | ⟨1, _⟩ => rfl | ⟨2, _⟩ => rfl)
  match a with
  | ⟨0, _⟩ => rfl
  | ⟨1, _⟩ => exact Nat.zero_add _
  | ⟨2, _⟩ => exact Nat.zero_add _
  | ⟨3, _⟩ => exact Nat.zero_add _
  | ⟨4, _⟩ =>
    show min (spreadAt (GatherDims.siIdx gather_S1x4x56x7x56x48_S56x7x1_S1x4x56x7x56x7x48_01236_4_n_n_4_2_14567148 (ix7 0 n h k w l e) ⟨0, Nat.one_pos⟩)).toInt.toNat 55 = (place w l).val
    rw [hs, spreadAt_apply]; exact Nat.min_eq_left (by omega)
  | ⟨5, _⟩ => exact Nat.zero_add _

theorem rows3 (x : S1x56x56.Idx → α) (h : Fin 56) (k : Fin 7) (w : Fin 56) :
    Host.gather gather_S1x56x56_S56x7x1_S1x56x7x56_03_1_n_n_1_2_1156 x spreadAt (ix4 0 h k w) = x (ix3 0 (place h k) w) := by
  unfold Host.gather
  congr 1
  funext a
  refine Fin.ext ?_
  have hs : spreadAt (GatherDims.siIdx gather_S1x56x56_S56x7x1_S1x56x7x56_03_1_n_n_1_2_1156 (ix4 0 h k w) ⟨0, Nat.one_pos⟩) = spreadAt (ix3 h k 0) :=
    congrArg spreadAt (by funext b; refine Fin.ext ?_; match b with | ⟨0, _⟩ => rfl | ⟨1, _⟩ => rfl | ⟨2, _⟩ => rfl)
  match a with
  | ⟨0, _⟩ => rfl
  | ⟨1, _⟩ =>
    show min (spreadAt (GatherDims.siIdx gather_S1x56x56_S56x7x1_S1x56x7x56_03_1_n_n_1_2_1156 (ix4 0 h k w) ⟨0, Nat.one_pos⟩)).toInt.toNat 55 = (place h k).val
    rw [hs, spreadAt_apply]; exact Nat.min_eq_left (by omega)
  | ⟨2, _⟩ => exact Nat.zero_add _

theorem cols4 (x : S1x56x7x56.Idx → α) (h : Fin 56) (k : Fin 7) (w : Fin 56) (l : Fin 7) :
    Host.gather gather_S1x56x7x56_S56x7x1_S1x56x7x56x7_012_3_n_n_3_2_15671 x spreadAt (ix5 0 h k w l) = x (ix4 0 h k (place w l)) := by
  unfold Host.gather
  congr 1
  funext a
  refine Fin.ext ?_
  have hs : spreadAt (GatherDims.siIdx gather_S1x56x7x56_S56x7x1_S1x56x7x56x7_012_3_n_n_3_2_15671 (ix5 0 h k w l) ⟨0, Nat.one_pos⟩) = spreadAt (ix3 w l 0) :=
    congrArg spreadAt (by funext b; refine Fin.ext ?_; match b with | ⟨0, _⟩ => rfl | ⟨1, _⟩ => rfl | ⟨2, _⟩ => rfl)
  match a with
  | ⟨0, _⟩ => rfl
  | ⟨1, _⟩ => exact Nat.zero_add _
  | ⟨2, _⟩ => exact Nat.zero_add _
  | ⟨3, _⟩ =>
    show min (spreadAt (GatherDims.siIdx gather_S1x56x7x56_S56x7x1_S1x56x7x56x7_012_3_n_n_3_2_15671 (ix5 0 h k w l) ⟨0, Nat.one_pos⟩)).toInt.toNat 55 = (place w l).val
    rw [hs, spreadAt_apply]; exact Nat.min_eq_left (by omega)

end Gathers

/-! ## The reference's arrays -/

abbrev FV (s : Shape) : Type := FVec Ideal s .f32

/-- The value projection. -/
def values (x : FV S1x56x56x192) (vw : FV S192x192) (vb : FV S192) : FV S1x56x56x192 :=
  addf (Host.dotGeneral dot_S1x56x56x192_S192x192_S1x56x56x192_3_1_012_0_n_n none x vw)
    (broadcastInDim S1x56x56x192 ![0, 1, 2, 3] bcast_S1x1x1x192_S1x56x56x192_0_1_2_3 (broadcastInDim S1x1x1x192 ![3] bcast_S192_S1x1x1x192_3 vb))

/-- Its heads in front. -/
def headed (v : FV S1x56x56x192) : FV S1x4x56x56x48 :=
  transpose S1x4x56x56x48 [0, 3, 1, 2, 4] (shapeCast _ v shapeCasts_S1x56x56x192_S1x56x56x4x48) transposes_S1x56x56x4x48_S1x4x56x56x48_0_3_1_2_4

/-- Every pixel's neighbours. -/
def around (v : FV S1x56x56x192) : FV S1x4x56x56x7x7x48 :=
  transpose S1x4x56x56x7x7x48 [0, 1, 2, 4, 3, 5, 6] (Host.gather gather_S1x4x56x7x56x48_S56x7x1_S1x4x56x7x56x7x48_01236_4_n_n_4_2_14567148
    (Host.gather gather_S1x4x56x56x48_S56x7x1_S1x4x56x7x56x48_0145_2_n_n_2_2_1415648 (headed v) spreadAt) spreadAt)
    transposes_S1x4x56x7x56x7x48_S1x4x56x56x7x7x48_0_1_2_4_3_5_6

/-- The map at every pixel's neighbours. -/
def mapAround (sp : FV S1x56x56) : FV S1x56x56x7x7 :=
  transpose S1x56x56x7x7 [0, 1, 3, 2, 4] (Host.gather gather_S1x56x7x56_S56x7x1_S1x56x7x56x7_012_3_n_n_3_2_15671
    (Host.gather gather_S1x56x56_S56x7x1_S1x56x7x56_03_1_n_n_1_2_1156 sp spreadAt) spreadAt) transposes_S1x56x7x56x7_S1x56x56x7x7_0_1_3_2_4

/-- The weights. -/
def weights (a : FV S1x4x56x56x49) (sp : FV S1x56x56) : FV S1x4x56x56x7x7 :=
  mulf (shapeCast _ a shapeCasts_S1x4x56x56x49_S1x4x56x56x7x7) (broadcastInDim S1x4x56x56x7x7 ![0, 1, 2, 3, 4, 5]
    bcast_S1x1x56x56x7x7_S1x4x56x56x7x7_0_1_2_3_4_5 (broadcastInDim S1x1x56x56x7x7 ![0, 2, 3, 4, 5] bcast_S1x56x56x7x7_S1x1x56x56x7x7_0_2_3_4_5 (mapAround sp)))

/-- The weighted sums. -/
def sums (a : FV S1x4x56x56x49) (sp : FV S1x56x56) (v : FV S1x56x56x192) : FV S1x4x56x56x48 :=
  Host.dotGeneral dot_S1x4x56x56x7x7_S1x4x56x56x7x7x48_S1x4x56x56x48_45_45_n_6_0123_0123 none (weights a sp) (around v)

/-- The result. -/
def result (g : FV S1x4x56x56x48) (pw : FV S192x192) (pb : FV S192) : FV S1x56x56x192 :=
  addf (Host.dotGeneral dot_S1x56x56x192_S192x192_S1x56x56x192_3_1_012_0_n_n none
      (shapeCast _ (transpose S1x56x56x4x48 [0, 2, 3, 1, 4] g transposes_S1x4x56x56x48_S1x56x56x4x48_0_2_3_1_4) shapeCasts_S1x56x56x4x48_S1x56x56x192) pw)
    (broadcastInDim S1x56x56x192 ![0, 1, 2, 3] bcast_S1x1x1x192_S1x56x56x192_0_1_2_3 (broadcastInDim S1x1x1x192 ![3] bcast_S192_S1x1x1x192_3 pb))

theorem values_apply (x : FV S1x56x56x192) (vw : FV S192x192) (vb : FV S192) (h w : Fin 56) (c : Fin 192) :
    values x vw vb (ix4 0 h w c) = value x vw vb h w c := by
  pointwise [values, value]

theorem headed_apply (v : FV S1x56x56x192) (n : Fin 4) (h w : Fin 56) (e : Fin 48) :
    headed v (ix5 0 n h w e) = v (ix4 0 h w ⟨n.val * 48 + e.val, by omega⟩) := by
  pointwise [headed]

theorem around_apply (v : FV S1x56x56x192) (n : Fin 4) (h w : Fin 56) (k l : Fin 7) (e : Fin 48) :
    around v (ix7 0 n h w k l e) = v (ix4 0 (place h k) (place w l) ⟨n.val * 48 + e.val, by omega⟩) := by
  pointwise [around, cols6, rows5, headed_apply]

theorem mapAround_apply (sp : FV S1x56x56) (h w : Fin 56) (k l : Fin 7) :
    mapAround sp (ix5 0 h w k l) = sp (ix3 0 (place h k) (place w l)) := by
  pointwise [mapAround, cols4, rows3]

theorem weights_apply (a : FV S1x4x56x56x49) (sp : FV S1x56x56) (n : Fin 4) (h w : Fin 56) (k l : Fin 7) :
    weights a sp (ix6 0 n h w k l) = a (ix5 0 n h w (spot k l)) * sp (ix3 0 (place h k) (place w l)) := by
  pointwise [weights, mapAround_apply, spot]

theorem sums_apply (a : FV S1x4x56x56x49) (sp : FV S1x56x56) (v : FV S1x56x56x192) (n : Fin 4) (h w : Fin 56) (e : Fin 48) :
    sums a sp v (ix5 0 n h w e) = ∑ k : Fin 7, ∑ l : Fin 7, a (ix5 0 n h w (spot k l)) * sp (ix3 0 (place h k) (place w l))
      * v (ix4 0 (place h k) (place w l) ⟨n.val * 48 + e.val, by omega⟩) := by
  pointwise [sums, weights_apply, around_apply]

theorem result_apply (g : FV S1x4x56x56x48) (pw : FV S192x192) (pb : FV S192) (h w : Fin 56) (o : Fin 192) :
    result g pw pb (ix4 0 h w o) = (∑ c : Fin 192, g (ix5 0 (head c) h w (lane c)) * pw (ix2 o c)) + pb (ix1 o) := by
  pointwise [result, head, lane]

/-! ## The reference's result is the sums above -/

theorem head_lane (c : Fin 192) : (⟨(head c).val * 48 + (lane c).val, by omega⟩ : Fin 192) = c :=
  Fin.ext (by show c.val / 48 * 48 + c.val % 48 = c.val; omega)

theorem result_out (x : FV S1x56x56x192) (a : FV S1x4x56x56x49) (sp : FV S1x56x56) (vw : FV S192x192) (vb : FV S192) (pw : FV S192x192) (pb : FV S192)
    (h w : Fin 56) (o : Fin 192) :
    result (sums a sp (values x vw vb)) pw pb (ix4 0 h w o) = out x a sp vw vb pw pb h w o := by
  rw [result_apply]
  unfold out near
  simp only [sums_apply, values_apply, head_lane]

theorem res_eq (m : (ℓ : Loc nD τ sig) → Buf (Elt Ideal) ℓ) (c : Dev nD) :
    Value.res_main_v66 m c = result (sums (m ((c.tc : Thread nD τ).loc main_arg1)) (m ((c.tc : Thread nD τ).loc main_arg2))
      (values (m ((c.tc : Thread nD τ).loc main_arg0)) (m ((c.tc : Thread nD τ).loc main_arg3)) (m ((c.tc : Thread nD τ).loc main_arg4))))
      (m ((c.tc : Thread nD τ).loc main_arg5)) (m ((c.tc : Thread nD τ).loc main_arg6)) := rfl

/-- The reference's result at pixel `(h, w)` and column `o`. -/
theorem res_apply (m : (ℓ : Loc nD τ sig) → Buf (Elt Ideal) ℓ) (c : Dev nD) (h w : Fin 56) (o : Fin 192) :
    Value.res_main_v66 m c (ix4 0 h w o) = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) h w o := by
  rw [res_eq]; exact result_out _ _ _ _ _ _ _ h w o

end Cert.ReferenceIdeal.Elem
-- ==== Proof.Equation.lean ====
/-
  The kernel's result is the reference's over the extended reals: the kernel multiplies the values by the map `sp`, the
  reference the weights, and the kernel adds the window's even and odd columns apart.
-/
module

public import proofs.«01_k».proof.Defs
public import proofs.«01_k».proof.Proof.KernVal
public import proofs.«01_k».proof.Proof.RefVal

@[expose] public section

noncomputable section

namespace Cert.Proof

open Idealize.ShloMosaic Idealize.SL.Sem
open Cert.KernelIdeal Cert.KernelIdeal.Run Cert.KernelIdeal.Trip
open Cert.ReferenceIdeal.Elem (place head spot value near out)

/-- The aggregate at pixel `(h, w)`. -/
theorem aggv_apply (U : FV S56x56x192) (A : FV S56x56x208) (h w : Fin 56) (c : Fin 192) :
    aggv (F := Ideal) U A (ix2 (pixel h w) c)
      = ∑ k : Fin 7, ∑ l : Fin 7, A (ix3 h w ⟨49 * (head c).val + (spot k l).val, by omega⟩) * U (ix3 (place h k) (place w l) c) := by
  have hh : (pixel h w).val / 56 = h.val := by show (h.val * 56 + w.val) / 56 = h.val; omega
  have hw : (pixel h w).val % 56 = w.val := by show (h.val * 56 + w.val) % 56 = w.val; omega
  show get2 (n0 := 56) (n1 := 192) (rowv (F := Ideal) (uwin (F := Ideal) U ((pixel h w).val / 56)) (arow (F := Ideal) A ((pixel h w).val / 56))) ((pixel h w).val % 56) c.val = _
  rw [hh, hw, ← get2_eq _ (ix2 w c) w.val c.val rfl rfl]
  show oval (F := Ideal) (uwin (F := Ideal) U h.val) (arow (F := Ideal) A h.val) (ws w.val) w.val c.val = _
  rw [oval_sum]
  refine Finset.sum_congr rfl fun k _ => Finset.sum_congr rfl fun l _ => ?_
  have hA : get2 (n0 := 56) (n1 := 208) (arow (F := Ideal) A h.val) w.val (49 * (c.val / 48) + 7 * k.val + l.val)
      = A (ix3 h w ⟨49 * (head c).val + (spot k l).val, by omega⟩) := by
    rw [← get2_eq (arow (F := Ideal) A h.val) (ix2 w ⟨49 * (head c).val + (spot k l).val, by omega⟩) w.val _ rfl
      (by show 49 * (c.val / 48) + (k.val * 7 + l.val) = _; omega)]
    exact (get3_eq (α := EReal) A (ix3 h w ⟨49 * (head c).val + (spot k l).val, by omega⟩) _ _ _ rfl rfl rfl).symm
  have hU : get3 (n0 := 7) (n1 := 56) (n2 := 192) (uwin (F := Ideal) U h.val) k.val (ws w.val + l.val) c.val = U (ix3 (place h k) (place w l) c) := by
    rw [← get3_eq (uwin (F := Ideal) U h.val) (ix3 k (place w l) c) k.val _ c.val rfl
      (by show min (w.val - 3) 49 + l.val = min 49 (w.val - 3) + l.val; omega) rfl]
    exact (get3_eq (α := EReal) U (ix3 (place h k) (place w l) c) _ _ _ (by show min (h.val - 3) 49 + k.val = min 49 (h.val - 3) + k.val; omega) rfl rfl).symm
  rw [hA, hU]

/-- The kernel's result at pixel `(h, w)` and column `o` is the reference's. -/
theorem whole_out (x : FV S1x56x56x192) (a : FV S1x4x56x56x49) (sp : FV S1x56x56) (vw : FV S192x192) (vb : FV S192) (pw : FV S192x192) (pb : FV S192)
    (h w : Fin 56) (o : Fin 192) :
    whole (F := Ideal) x a sp vw vb pw pb (ix4 0 h w o) = out x a sp vw vb pw pb h w o := by
  rw [whole_apply]
  unfold out near
  refine congrArg (· + pb (ix1 o)) (Finset.sum_congr rfl fun c _ => congrArg (· * pw (ix2 o c)) ?_)
  rw [aggv_apply]
  refine Finset.sum_congr rfl fun k _ => Finset.sum_congr rfl fun l _ => ?_
  rw [padded_apply, scaled_apply]
  unfold value
  rw [mul_comm _ (sp _), ← mul_assoc]

/-- The two results are one array when the arguments agree. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.ReferenceIdeal.Value.res_main_v66 m' c : S1x56x56x192.Idx → EReal) = W7 m c (Proc.devRef .tc main_v12) := by
  obtain ⟨h0, h1, h2, h3, h4, h5, h6⟩ := h
  funext j
  obtain ⟨z, y, x, o, rfl⟩ : ∃ (z : Fin 1) (y x : Fin 56) (o : Fin 192), j = ix4 z y x o := ⟨j 0, j 1, j 2, j 3, eq_ix4 j⟩
  obtain rfl : z = 0 := Subsingleton.elim _ _
  rw [W7_eq]
  refine (Cert.ReferenceIdeal.Elem.res_apply m' c y x o).trans (Eq.trans ?_ (whole_out _ _ _ _ _ _ _ y x o).symm)
  rw [h0, h1, h2, h3, h4, h5, h6]

theorem algebraic_kernel : Cert.algebraic_KernelIdeal_ReferenceIdeal (hKernelIdeal := Cert.KernelIdeal.Gen.facts)
    (hReferenceIdeal := Cert.ReferenceIdeal.Gen.facts) := by
  intro m g m' g' _ hargs
  refine ⟨fun c => W7 m c (Proc.devRef .tc main_v12), (θ_run Cert.KernelIdeal.defs _ _).mono (fun _ h c => h.1 c) (run_args (F := Ideal) m g), ?_⟩
  exact (θ_run Cert.ReferenceIdeal.defs _ _).mono (fun _ h c => ⟨(h c).1.trans (results_eq m m' c (hargs c)), (h c).2⟩)
    (Cert.ReferenceIdeal.Value.run (F := Ideal) m' g')

end Cert.Proof
-- ==== Proof.lean ====
/-
  The proof of `Cert.Claim` (proofs.«01_k».proof.Defs): the frames of the kernel, of the kernel over the extended reals and
  of the reference; that the second is the first read over the extended reals; and that kernel and reference compute the
  same array there. The frames are in Proof/Frames.lean and the equation in Proof/Equation.lean.
-/
module

public import proofs.«01_k».proof.Defs
public import proofs.«01_k».proof.Proof.Frames
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, frame_Kernel, frame_KernelIdeal, frame_ReferenceIdeal, trivial,
    algebraic_kernel⟩

end Cert.Proof

end
